-- ==== Defs.lean ====
def Pre_Kernel [hPre_x_in_range : Cert.Pre_x_in_range.Facts] (m : (ℓ : Loc Cert.Kernel.nD Cert.Kernel.τ Cert.Kernel.sig) → Buf (Elt Bits) ℓ) : Prop :=
  ∀ c : Dev Cert.Kernel.nD,
    (Cert.Pre_x_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_x_in_range : Cert.Pre_x_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_range [hPre_x_in_range : Cert.Pre_x_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_x_in_range : Cert.Pre_x_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_x_in_range [hReferenceIdeal : Cert.ReferenceIdeal.Facts] [hPre_x_in_range : Cert.Pre_x_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_x_in_range : Cert.Pre_x_in_range.Facts),
    quiescent_Kernel (hKernel := hKernel) (hPre_x_in_range := hPre_x_in_range)
    ∧ quiescent_KernelIdeal (hKernelIdeal := hKernelIdeal) (hPre_x_in_range := hPre_x_in_range)
    ∧ quiescent_ReferenceIdeal (hReferenceIdeal := hReferenceIdeal)
    ∧ quiescent_ReferenceIdeal_pre_x_in_range (hReferenceIdeal := hReferenceIdeal) (hPre_x_in_range := hPre_x_in_range)
    ∧ preserves_Kernel_KernelIdeal
    ∧ algebraic_KernelIdeal_ReferenceIdeal (hKernelIdeal := hKernelIdeal) (hReferenceIdeal := hReferenceIdeal) (hPre_x_in_range := hPre_x_in_range)
-- ==== Pre_x_in_range.lean ====
abbrev S1 : Shape := ⟨1, ![1]⟩
abbrev S500x10 : Shape := ⟨2, ![500, 10]⟩
abbrev S10x16 : Shape := ⟨2, ![10, 16]⟩
abbrev S16 : Shape := ⟨1, ![16]⟩
abbrev S16x32 : Shape := ⟨2, ![16, 32]⟩
abbrev S32 : Shape := ⟨1, ![32]⟩
abbrev S32x6 : Shape := ⟨2, ![32, 6]⟩
abbrev S6 : Shape := ⟨1, ![6]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S500x10 .f32) (main_arg2 : FVec F S10x16 .f32) (main_arg3 : FVec F S16 .f32) (main_arg4 : FVec F S16x32 .f32) (main_arg5 : FVec F S32 .f32) (main_arg6 : FVec F S32x6 .f32) (main_arg7 : FVec F S6 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 500#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S1 : Shape := ⟨1, ![1]⟩
abbrev S500x10 : Shape := ⟨2, ![500, 10]⟩
abbrev S10x16 : Shape := ⟨2, ![10, 16]⟩
abbrev S16 : Shape := ⟨1, ![16]⟩
abbrev S16x32 : Shape := ⟨2, ![16, 32]⟩
abbrev S32 : Shape := ⟨1, ![32]⟩
abbrev S32x6 : Shape := ⟨2, ![32, 6]⟩
abbrev S6 : Shape := ⟨1, ![6]⟩
abbrev S5000 : Shape := ⟨1, ![5000]⟩
abbrev S192 : Shape := ⟨1, ![192]⟩
abbrev S5016 : Shape := ⟨1, ![5016]⟩
abbrev S208 : Shape := ⟨1, ![208]⟩
abbrev S_ : Shape := ⟨0, ![]⟩
abbrev S1x16 : Shape := ⟨2, ![1, 16]⟩
abbrev S1x6 : Shape := ⟨2, ![1, 6]⟩

abbrev nBuf : Table → Nat
  | .hbm => 12
  | .local .scVector .vmem => 9
  | _ => 0

abbrev bufTy : (tb : Table) → Fin (nBuf tb) → BufTy
  | .hbm, ⟨0, _⟩ => ⟨S1, .i32⟩
  | .hbm, ⟨1, _⟩ => ⟨S500x10, .f32⟩
  | .hbm, ⟨2, _⟩ => ⟨S10x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x6, .f32⟩
  | .hbm, ⟨7, _⟩ => ⟨S6, .f32⟩
  | .hbm, ⟨8, _⟩ => ⟨S5000, .f32⟩
  | .hbm, ⟨9, _⟩ => ⟨S192, .f32⟩
  | .hbm, ⟨10, _⟩ => ⟨S6, .f32⟩
  | .hbm, ⟨11, _⟩ => ⟨S1x6, .f32⟩
  | .local .scVector .vmem, ⟨0, _⟩ => ⟨S16, .i32⟩
  | .local .scVector .vmem, ⟨1, _⟩ => ⟨S5016, .f32⟩
  | .local .scVector .vmem, ⟨2, _⟩ => ⟨S10x16, .f32⟩
  | .local .scVector .vmem, ⟨3, _⟩ => ⟨S16, .f32⟩
  | .local .scVector .vmem, ⟨4, _⟩ => ⟨S16x32, .f32⟩
  | .local .scVector .vmem, ⟨5, _⟩ => ⟨S32, .f32⟩
  | .local .scVector .vmem, ⟨6, _⟩ => ⟨S208, .f32⟩
  | .local .scVector .vmem, ⟨7, _⟩ => ⟨S16, .f32⟩
  | .local .scVector .vmem, ⟨8, _⟩ => ⟨S16, .f32⟩
  | _, _ => ⟨S1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_arg0_scv : Ref sig .scVector := ⟨.hbm, 0, rfl⟩
abbrev main_v0_scv : Ref sig .scVector := ⟨.hbm, 8, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v1_scv : Ref sig .scVector := ⟨.hbm, 9, rfl⟩
abbrev main_arg7_scv : Ref sig .scVector := ⟨.hbm, 7, rfl⟩
abbrev main_v2_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (v25 : BitVec 32) : Fin 1 → Nat :=
  let c10_i32 : BitVec 32 := 10#32
  let v26 : BitVec 32 := Scalar.muli v25 c10_i32
  let v27 : Index := Scalar.indexCast v26
  ![v27.toNat]

def k0_chk1 (i : grid0.Coords) (v25 : BitVec 32) : Prop :=
  (∀ (k0_h1 : k0_cond1 i = 1#1), ∀ a, (k0_off1 v25) a + S16.size a ≤ S5016.size a)
theorem k0_off1_inb : ∀ (i : grid0.Coords) (v25 : BitVec 32) (k0_hw1 : k0_chk1 i v25), ∀ (k0_h1 : k0_cond1 i = 1#1), ∀ a, (k0_off1 v25) a + S16.size a ≤ S5016.size a := fun i v25 k0_hw1 k0_h1 => k0_hw1 k0_h1

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== ReferenceIdeal.lean ====
abbrev S1 : Shape := ⟨1, ![1]⟩
abbrev S500x10 : Shape := ⟨2, ![500, 10]⟩
abbrev S10x16 : Shape := ⟨2, ![10, 16]⟩
abbrev S16 : Shape := ⟨1, ![16]⟩
abbrev S16x32 : Shape := ⟨2, ![16, 32]⟩
abbrev S32 : Shape := ⟨1, ![32]⟩
abbrev S32x6 : Shape := ⟨2, ![32, 6]⟩
abbrev S6 : Shape := ⟨1, ![6]⟩
abbrev S_ : Shape := ⟨0, ![]⟩
abbrev S1x1 : Shape := ⟨2, ![1, 1]⟩
abbrev S1x10 : Shape := ⟨2, ![1, 10]⟩
abbrev S1x16 : Shape := ⟨2, ![1, 16]⟩
abbrev S1x32 : Shape := ⟨2, ![1, 32]⟩
abbrev S1x6 : Shape := ⟨2, ![1, 6]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S500x10, .f32⟩
  | .hbm, ⟨2, _⟩ => ⟨S10x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x6, .f32⟩
  | .hbm, ⟨7, _⟩ => ⟨S6, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1x1, .i32⟩
  | .hbm, ⟨16, _⟩ => ⟨S1, .i32⟩
  | .hbm, ⟨17, _⟩ => ⟨S_, .i32⟩
  | .hbm, ⟨18, _⟩ => ⟨S1x1, .i32⟩
  | .hbm, ⟨19, _⟩ => ⟨S1x1, .i1⟩
  | .hbm, ⟨20, _⟩ => ⟨S1x1, .i32⟩
  | .hbm, ⟨21, _⟩ => ⟨S1x1, .i1⟩
  | .hbm, ⟨22, _⟩ => ⟨S1x1, .i1⟩
  | .hbm, ⟨23, _⟩ => ⟨S_, .i1⟩
  | .hbm, ⟨24, _⟩ => ⟨S1, .i1⟩
  | .hbm, ⟨25, _⟩ => ⟨S1x10, .f32⟩
  | .hbm, ⟨26, _⟩ => ⟨S1x10, .i1⟩
  | .hbm, ⟨27, _⟩ => ⟨S_, .f32⟩
  | .hbm, ⟨28, _⟩ => ⟨S1x10, .f32⟩
  | .hbm, ⟨29, _⟩ => ⟨S1x10, .f32⟩
  | .hbm, ⟨30, _⟩ => ⟨S1x16, .f32⟩
  | .hbm, ⟨31, _⟩ => ⟨S1x16, .f32⟩
  | .hbm, ⟨32, _⟩ => ⟨S1x16, .f32⟩
  | .hbm, ⟨33, _⟩ => ⟨S_, .f32⟩
  | .hbm, ⟨34, _⟩ => ⟨S1x16, .f32⟩
  | .hbm, ⟨35, _⟩ => ⟨S1x16, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S_, .f32⟩
  | .hbm, ⟨40, _⟩ => ⟨S1x32, .f32⟩
  | .hbm, ⟨41, _⟩ => ⟨S1x32, .f32⟩
  | .hbm, ⟨42, _⟩ => ⟨S1x6, .f32⟩
  | .hbm, ⟨43, _⟩ => ⟨S1x6, .f32⟩
  | .hbm, ⟨44, _⟩ => ⟨S1x6, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1x1, .f32⟩
  | .hbm, ⟨51, _⟩ => ⟨S1x6, .f32⟩
  | .hbm, ⟨52, _⟩ => ⟨S1x6, .f32⟩
  | .hbm, ⟨53, _⟩ => ⟨S1x6, .f32⟩
  | .hbm, ⟨54, _⟩ => ⟨S_, .f32⟩
  | .hbm, ⟨55, _⟩ => ⟨S1, .f32⟩
  | .hbm, ⟨56, _⟩ => ⟨S1x1, .f32⟩
  | .hbm, ⟨57, _⟩ => ⟨S1x6, .f32⟩
  | .hbm, ⟨58, _⟩ => ⟨S1x6, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call1_cst : Ref sig .tc := ⟨.hbm, 33, rfl⟩
abbrev main_call1_v0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call2_cst : Ref sig .tc := ⟨.hbm, 39, rfl⟩
abbrev main_call2_v0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst : Ref sig .tc := ⟨.hbm, 45, rfl⟩
abbrev main_v12 : Ref sig .tc := ⟨.hbm, 46, rfl⟩
abbrev main_cst_0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩

abbrev nD : Nat := 1
abbrev τ : Topo := Topo.v7x

variable {F : FTy → Type} [FloatOps F]
-- ==== Proof.Spec.lean ====
module

public import proofs.«01_k».proof.Defs
public import Idealize.ShloMosaic.Lib.Pointwise.Index

@[expose] public section

noncomputable section

/-! # What the kernel computes, element by element

A small policy network on one state: the state's row of ten numbers, two hidden layers of 16 and 32 numbers with a maximum
with zero after each, six logits, and their softmax. Each sum starts at the bias and adds the products from left to right. -/

namespace Cert.Proof.Policy

open Cert.KernelIdeal

open Idealize.ShloMosaic

variable {F : FTy → Type} [FloatOps F]

/-- The bias `b` and then the products `h k * w k` added one by one, from left to right. -/
def dotAcc : (n : ℕ) → (Fin n → F .f32) → (Fin n → F .f32) → F .f32 → F .f32
  | 0, _, _, b => b
  | n + 1, h, w, b => FloatOps.addf (dotAcc n (fun k => h k.castSucc) (fun k => w k.castSucc) b) (FloatOps.mulf (h (Fin.last n)) (w (Fin.last n)))

/-- The format's zero. -/
abbrev zf : F .f32 := Scalar.ofBits .f32 0x00000000#32

/-- The state's row of the table laid out flat, ten numbers to a row. -/
def row (x : S1.Idx → BitVec 32) (t : S5000.Idx → F .f32) (i : Fin 10) : F .f32 :=
  t (ix1 (Fin.ofNat 5000 (10 * (x (ix1 0)).toNat + i.val)))

/-- The first hidden layer from the row. -/
def hidden1 (e : Fin 10 → F .f32) (w1 : S10x16.Idx → F .f32) (b1 : S16.Idx → F .f32) (j : Fin 16) : F .f32 :=
  FloatOps.maximumf (dotAcc 10 e (fun i => w1 (ix2 i j)) (b1 (ix1 j))) zf

/-- The second hidden layer from the first. -/
def hidden2 (h : Fin 16 → F .f32) (w2 : S16x32.Idx → F .f32) (b2 : S32.Idx → F .f32) (q : Fin 32) : F .f32 :=
  FloatOps.maximumf (dotAcc 16 h (fun k => w2 (ix2 k q)) (b2 (ix1 q))) zf

/-- The logits from the second hidden layer; the last weights are laid out flat, six numbers to a row. -/
def logit (h : Fin 32 → F .f32) (w3 : S192.Idx → F .f32) (b3 : S6.Idx → F .f32) (j : Fin 6) : F .f32 :=
  dotAcc 32 h (fun k => w3 (ix1 ⟨6 * k.val + j.val, by omega⟩)) (b3 (ix1 j))

/-- The largest of six numbers, from left to right. -/
def max6 (l : Fin 6 → F .f32) : F .f32 :=
  Scalar.maximumf (Scalar.maximumf (Scalar.maximumf (Scalar.maximumf (Scalar.maximumf (l 0) (l 1)) (l 2)) (l 3)) (l 4)) (l 5)

/-- The sum of six numbers, from left to right. -/
def sum6 (l : Fin 6 → F .f32) : F .f32 :=
  Scalar.addf (Scalar.addf (Scalar.addf (Scalar.addf (Scalar.addf (l 0) (l 1)) (l 2)) (l 3)) (l 4)) (l 5)

/-- The exponential of a logit less the largest. -/
def expo (l : Fin 6 → F .f32) (j : Fin 6) : F .f32 := FloatOps.exp (FloatOps.subf (l j) (max6 l))

/-- The softmax of six logits. -/
def soft (l : Fin 6 → F .f32) (j : Fin 6) : F .f32 := FloatOps.divf (expo l j) (sum6 (expo l))

/-- The network's six probabilities. -/
def policy (x : S1.Idx → BitVec 32) (t : S5000.Idx → F .f32) (w1 : S10x16.Idx → F .f32) (b1 : S16.Idx → F .f32)
    (w2 : S16x32.Idx → F .f32) (b2 : S32.Idx → F .f32) (w3 : S192.Idx → F .f32) (b3 : S6.Idx → F .f32) : S6.Idx → F .f32 :=
  fun j => soft (logit (hidden2 (hidden1 (row x t) w1 b1) w2 b2) w3 b3) (j 0)

end Cert.Proof.Policy
-- ==== Proof.Vectors.lean ====
module

public import proofs.«01_k».proof.Proof.Spec
public import Idealize.ShloMosaic.Lib.Pointwise.Tactic
public import Idealize.ShloMosaic.Lib.VecWindow
import Idealize.ShloMosaic.Lib.Pipeline.Value
public import proofs.«01_k».proof.Proof.Gen.KernelIdeal.Skeleton

@[expose] public section

noncomputable section

/-! # The kernel's vectors

What the kernel computes between its loads and its one store, as vectors of sixteen numbers over the scratches' contents,
and each of their elements in the terms of the network. -/

namespace Cert.Proof.Policy

open Cert.KernelIdeal Cert.KernelIdeal.Gen

open Idealize.ShloMosaic

variable {F : FTy → Type}

/-! ## The operands and the scratches, whole -/

abbrev xH : Memref sig .scVector .hbm S1 .i32 := Memref.whole main_arg0_scv
abbrev tH : Memref sig .scVector .hbm S5000 .f32 := Memref.whole main_v0_scv
abbrev w1H : Memref sig .scVector .hbm S10x16 .f32 := Memref.whole main_arg2_scv
abbrev b1H : Memref sig .scVector .hbm S16 .f32 := Memref.whole main_arg3_scv
abbrev w2H : Memref sig .scVector .hbm S16x32 .f32 := Memref.whole main_arg4_scv
abbrev b2H : Memref sig .scVector .hbm S32 .f32 := Memref.whole main_arg5_scv
abbrev w3H : Memref sig .scVector .hbm S192 .f32 := Memref.whole main_v1_scv
abbrev b3H : Memref sig .scVector .hbm S6 .f32 := Memref.whole main_arg7_scv
abbrev oH : Memref sig .scVector .hbm S6 .f32 := Memref.whole main_v2_scv
abbrev xS : Memref sig .scVector .vmem S16 .i32 := Memref.whole cc0_scratch0
abbrev tS : Memref sig .scVector .vmem S5016 .f32 := Memref.whole cc0_scratch1
abbrev w1S : Memref sig .scVector .vmem S10x16 .f32 := Memref.whole cc0_scratch2
abbrev b1S : Memref sig .scVector .vmem S16 .f32 := Memref.whole cc0_scratch3
abbrev w2S : Memref sig .scVector .vmem S16x32 .f32 := Memref.whole cc0_scratch4
abbrev b2S : Memref sig .scVector .vmem S32 .f32 := Memref.whole cc0_scratch5
abbrev w3S : Memref sig .scVector .vmem S208 .f32 := Memref.whole cc0_scratch6
abbrev b3S : Memref sig .scVector .vmem S16 .f32 := Memref.whole cc0_scratch7
abbrev oS : Memref sig .scVector .vmem S16 .f32 := Memref.whole cc0_scratch8

variable [FloatOps F]

/-! ## The vectors -/

/-- One element of a vector, as the kernel takes it out. -/
abbrev pick (k : ℕ) (h : S16.Slices ![k] S1) (v : FVec F S16 .f32) : F .f32 := extractAt ![0] (extractStridedSlice S1 ![k] v h) inpos_S1_p0

/-- The first hidden layer as a vector, from the vector that starts with the row. -/
def vecH1 (v29 : FVec F S16 .f32) (w1 : (w1S).view.ty.Contents (Elt F)) (b1 : (b1S).view.ty.Contents (Elt F)) : FVec F S16 .f32 :=
  let v30 := (b1S).view.readAt (Elt F) (Rect.unit (s := S16) ![0] S16.size inb_S16_S16_0).toLoadRect b1
  let v35 := (w1S).view.readAt (Elt F) (Rect.unit (s := S10x16) ![0, 0] S1x16.size inb_S10x16_S1x16_0_0).toLoadRect w1
  let v43 := (w1S).view.readAt (Elt F) (Rect.unit (s := S10x16) ![1, 0] S1x16.size inb_S10x16_S1x16_1_0).toLoadRect w1
  let v51 := (w1S).view.readAt (Elt F) (Rect.unit (s := S10x16) ![2, 0] S1x16.size inb_S10x16_S1x16_2_0).toLoadRect w1
  let v59 := (w1S).view.readAt (Elt F) (Rect.unit (s := S10x16) ![3, 0] S1x16.size inb_S10x16_S1x16_3_0).toLoadRect w1
  let v67 := (w1S).view.readAt (Elt F) (Rect.unit (s := S10x16) ![4, 0] S1x16.size inb_S10x16_S1x16_4_0).toLoadRect w1
  let v75 := (w1S).view.readAt (Elt F) (Rect.unit (s := S10x16) ![5, 0] S1x16.size inb_S10x16_S1x16_5_0).toLoadRect w1
  let v71 := k0_pay3 v29 v30 v35 v43 v51 v59 v67
  let v73 := k0_pay4 v29
  let v76 := k0_pay5 v75
  let v83 := (w1S).view.readAt (Elt F) (Rect.unit (s := S10x16) ![6, 0] S1x16.size inb_S10x16_S1x16_6_0).toLoadRect w1
  let v91 := (w1S).view.readAt (Elt F) (Rect.unit (s := S10x16) ![7, 0] S1x16.size inb_S10x16_S1x16_7_0).toLoadRect w1
  let v99 := (w1S).view.readAt (Elt F) (Rect.unit (s := S10x16) ![8, 0] S1x16.size inb_S10x16_S1x16_8_0).toLoadRect w1
  let v107 := (w1S).view.readAt (Elt F) (Rect.unit (s := S10x16) ![9, 0] S1x16.size inb_S10x16_S1x16_9_0).toLoadRect w1
  k0_pay6 v29 v71 v73 v76 v83 v91 v99 v107

/-- The first sixteen numbers of the second hidden layer as a vector. -/
def vecLo (v113 : FVec F S16 .f32) (w2 : (w2S).view.ty.Contents (Elt F)) (b2 : (b2S).view.ty.Contents (Elt F)) : FVec F S16 .f32 :=
  let v114 := (b2S).view.readAt (Elt F) (Rect.unit (s := S32) ![0] S16.size inb_S32_S16_0).toLoadRect b2
  let v121 := (w2S).view.readAt (Elt F) (Rect.unit (s := S16x32) ![0, 0] S1x16.size inb_S16x32_S1x16_0_0).toLoadRect w2
  let v115 := k0_pay7 v114
  let v119 := pick 0 slices_S16_o0_S1 v113
  let v122 := k0_pay10 v121
  let v123 := broadcast S16 v119
  let v135 := (w2S).view.readAt (Elt F) (Rect.unit (s := S16x32) ![1, 0] S1x16.size inb_S16x32_S1x16_1_0).toLoadRect w2
  let v149 := (w2S).view.readAt (Elt F) (Rect.unit (s := S16x32) ![2, 0] S1x16.size inb_S16x32_S1x16_2_0).toLoadRect w2
  let v163 := (w2S).view.readAt (Elt F) (Rect.unit (s := S16x32) ![3, 0] S1x16.size inb_S16x32_S1x16_3_0).toLoadRect w2
  let v167 := k0_pay16 v113 v115 v122 v123 v135 v149 v163
  let v177 := (w2S).view.readAt (Elt F) (Rect.unit (s := S16x32) ![4, 0] S1x16.size inb_S16x32_S1x16_4_0).toLoadRect w2
  let v191 := (w2S).view.readAt (Elt F) (Rect.unit (s := S16x32) ![5, 0] S1x16.size inb_S16x32_S1x16_5_0).toLoadRect w2
  let v205 := (w2S).view.readAt (Elt F) (Rect.unit (s := S16x32) ![6, 0] S1x16.size inb_S16x32_S1x16_6_0).toLoadRect w2
  let v209 := k0_pay20 v113 v167 v177 v191 v205
  let v217 := k0_pay22 v113
  let v219 := (w2S).view.readAt (Elt F) (Rect.unit (s := S16x32) ![7, 0] S1x16.size inb_S16x32_S1x16_7_0).toLoadRect w2
  let v233 := (w2S).view.readAt (Elt F) (Rect.unit (s := S16x32) ![8, 0] S1x16.size inb_S16x32_S1x16_8_0).toLoadRect w2
  let v247 := (w2S).view.readAt (Elt F) (Rect.unit (s := S16x32) ![9, 0] S1x16.size inb_S16x32_S1x16_9_0).toLoadRect w2
  let v261 := (w2S).view.readAt (Elt F) (Rect.unit (s := S16x32) ![10, 0] S1x16.size inb_S16x32_S1x16_10_0).toLoadRect w2
  let v251 := k0_pay25 v113 v209 v217 v219 v233 v247
  let v262 := k0_pay28 v261
  let v263 := k0_pay29 v113
  let v275 := (w2S).view.readAt (Elt F) (Rect.unit (s := S16x32) ![11, 0] S1x16.size inb_S16x32_S1x16_11_0).toLoadRect w2
  let v289 := (w2S).view.readAt (Elt F) (Rect.unit (s := S16x32) ![12, 0] S1x16.size inb_S16x32_S1x16_12_0).toLoadRect w2
  let v303 := (w2S).view.readAt (Elt F) (Rect.unit (s := S16x32) ![13, 0] S1x16.size inb_S16x32_S1x16_13_0).toLoadRect w2
  let v307 := k0_pay34 v113 v251 v262 v263 v275 v289 v303
  let v317 := (w2S).view.readAt (Elt F) (Rect.unit (s := S16x32) ![14, 0] S1x16.size inb_S16x32_S1x16_14_0).toLoadRect w2
  let v331 := (w2S).view.readAt (Elt F) (Rect.unit (s := S16x32) ![15, 0] S1x16.size inb_S16x32_S1x16_15_0).toLoadRect w2
  k0_pay37 v113 v307 v317 v331

/-- The last sixteen numbers of the second hidden layer as a vector. -/
def vecHi (v113 : FVec F S16 .f32) (w2 : (w2S).view.ty.Contents (Elt F)) (b2 : (b2S).view.ty.Contents (Elt F)) : FVec F S16 .f32 :=
  let v116 := (b2S).view.readAt (Elt F) (Rect.unit (s := S32) ![16] S16.size inb_S32_S16_16).toLoadRect b2
  let v117 := k0_pay8 v116
  let v119 := pick 0 slices_S16_o0_S1 v113
  let v127 := (w2S).view.readAt (Elt F) (Rect.unit (s := S16x32) ![0, 16] S1x16.size inb_S16x32_S1x16_0_16).toLoadRect w2
  let v141 := (w2S).view.readAt (Elt F) (Rect.unit (s := S16x32) ![1, 16] S1x16.size inb_S16x32_S1x16_1_16).toLoadRect w2
  let v155 := (w2S).view.readAt (Elt F) (Rect.unit (s := S16x32) ![2, 16] S1x16.size inb_S16x32_S1x16_2_16).toLoadRect w2
  let v169 := (w2S).view.readAt (Elt F) (Rect.unit (s := S16x32) ![3, 16] S1x16.size inb_S16x32_S1x16_3_16).toLoadRect w2
  let v159 := k0_pay14 v113 v117 v119 v127 v141 v155
  let v161 := k0_pay15 v113
  let v183 := (w2S).view.readAt (Elt F) (Rect.unit (s := S16x32) ![4, 16] S1x16.size inb_S16x32_S1x16_4_16).toLoadRect w2
  let v197 := (w2S).view.readAt (Elt F) (Rect.unit (s := S16x32) ![5, 16] S1x16.size inb_S16x32_S1x16_5_16).toLoadRect w2
  let v211 := (w2S).view.readAt (Elt F) (Rect.unit (s := S16x32) ![6, 16] S1x16.size inb_S16x32_S1x16_6_16).toLoadRect w2
  let v215 := k0_pay21 v113 v159 v161 v169 v183 v197 v211
  let v217 := k0_pay22 v113
  let v225 := (w2S).view.readAt (Elt F) (Rect.unit (s := S16x32) ![7, 16] S1x16.size inb_S16x32_S1x16_7_16).toLoadRect w2
  let v239 := (w2S).view.readAt (Elt F) (Rect.unit (s := S16x32) ![8, 16] S1x16.size inb_S16x32_S1x16_8_16).toLoadRect w2
  let v253 := (w2S).view.readAt (Elt F) (Rect.unit (s := S16x32) ![9, 16] S1x16.size inb_S16x32_S1x16_9_16).toLoadRect w2
  let v257 := k0_pay26 v113 v215 v217 v225 v239 v253
  let v259 := k0_pay27 v113
  let v267 := (w2S).view.readAt (Elt F) (Rect.unit (s := S16x32) ![10, 16] S1x16.size inb_S16x32_S1x16_10_16).toLoadRect w2
  let v281 := (w2S).view.readAt (Elt F) (Rect.unit (s := S16x32) ![11, 16] S1x16.size inb_S16x32_S1x16_11_16).toLoadRect w2
  let v295 := (w2S).view.readAt (Elt F) (Rect.unit (s := S16x32) ![12, 16] S1x16.size inb_S16x32_S1x16_12_16).toLoadRect w2
  let v309 := (w2S).view.readAt (Elt F) (Rect.unit (s := S16x32) ![13, 16] S1x16.size inb_S16x32_S1x16_13_16).toLoadRect w2
  let v299 := k0_pay32 v113 v257 v259 v267 v281 v295
  let v301 := k0_pay33 v113
  let v323 := (w2S).view.readAt (Elt F) (Rect.unit (s := S16x32) ![14, 16] S1x16.size inb_S16x32_S1x16_14_16).toLoadRect w2
  let v337 := (w2S).view.readAt (Elt F) (Rect.unit (s := S16x32) ![15, 16] S1x16.size inb_S16x32_S1x16_15_16).toLoadRect w2
  k0_pay38 v113 v299 v301 v309 v323 v337

/-- The logits but for their last term, as a vector, from the two halves of the second hidden layer. -/
def vecLog (v343 v345 : FVec F S16 .f32) (w3 : (w3S).view.ty.Contents (Elt F)) (b3 : (b3S).view.ty.Contents (Elt F)) : FVec F S16 .f32 :=
  let v346 := (b3S).view.readAt (Elt F) (Rect.unit (s := S16) ![0] S16.size inb_S16_S16_0).toLoadRect b3
  let v350 := (w3S).view.readAt (Elt F) (Rect.unit (s := S208) ![0] S16.size inb_S208_S16_0).toLoadRect w3
  let v354 := addf (shapeCast S16 v346 shapeCasts_S16_S16) (mulf (broadcast S16 (pick 0 slices_S16_o0_S1 v343)) (shapeCast S16 v350 shapeCasts_S16_S16))
  let v356 := pick 1 slices_S16_o1_S1 v343
  let v357 := (w3S).view.readAt (Elt F) (Rect.unit (s := S208) ![6] S16.size inb_S208_S16_6).toLoadRect w3
  let v364 := (w3S).view.readAt (Elt F) (Rect.unit (s := S208) ![12] S16.size inb_S208_S16_12).toLoadRect w3
  let v371 := (w3S).view.readAt (Elt F) (Rect.unit (s := S208) ![18] S16.size inb_S208_S16_18).toLoadRect w3
  let v378 := (w3S).view.readAt (Elt F) (Rect.unit (s := S208) ![24] S16.size inb_S208_S16_24).toLoadRect w3
  let v385 := (w3S).view.readAt (Elt F) (Rect.unit (s := S208) ![30] S16.size inb_S208_S16_30).toLoadRect w3
  let v392 := (w3S).view.readAt (Elt F) (Rect.unit (s := S208) ![36] S16.size inb_S208_S16_36).toLoadRect w3
  let v399 := (w3S).view.readAt (Elt F) (Rect.unit (s := S208) ![42] S16.size inb_S208_S16_42).toLoadRect w3
  let v406 := (w3S).view.readAt (Elt F) (Rect.unit (s := S208) ![48] S16.size inb_S208_S16_48).toLoadRect w3
  let v403 := k0_pay41 v343 v354 v356 v357 v364 v371 v378 v385 v392 v399
  let v409 := k0_pay42 v343 v406
  let v413 := (w3S).view.readAt (Elt F) (Rect.unit (s := S208) ![54] S16.size inb_S208_S16_54).toLoadRect w3
  let v420 := (w3S).view.readAt (Elt F) (Rect.unit (s := S208) ![60] S16.size inb_S208_S16_60).toLoadRect w3
  let v427 := (w3S).view.readAt (Elt F) (Rect.unit (s := S208) ![66] S16.size inb_S208_S16_66).toLoadRect w3
  let v434 := (w3S).view.readAt (Elt F) (Rect.unit (s := S208) ![72] S16.size inb_S208_S16_72).toLoadRect w3
  let v441 := (w3S).view.readAt (Elt F) (Rect.unit (s := S208) ![78] S16.size inb_S208_S16_78).toLoadRect w3
  let v448 := (w3S).view.readAt (Elt F) (Rect.unit (s := S208) ![84] S16.size inb_S208_S16_84).toLoadRect w3
  let v455 := (w3S).view.readAt (Elt F) (Rect.unit (s := S208) ![90] S16.size inb_S208_S16_90).toLoadRect w3
  let v459 := k0_pay43 v343 v403 v409 v413 v420 v427 v434 v441 v448 v455
  let v461 := k0_pay44 v345
  let v462 := (w3S).view.readAt (Elt F) (Rect.unit (s := S208) ![96] S16.size inb_S208_S16_96).toLoadRect w3
  let v469 := (w3S).view.readAt (Elt F) (Rect.unit (s := S208) ![102] S16.size inb_S208_S16_102).toLoadRect w3
  let v476 := (w3S).view.readAt (Elt F) (Rect.unit (s := S208) ![108] S16.size inb_S208_S16_108).toLoadRect w3
  let v483 := (w3S).view.readAt (Elt F) (Rect.unit (s := S208) ![114] S16.size inb_S208_S16_114).toLoadRect w3
  let v490 := (w3S).view.readAt (Elt F) (Rect.unit (s := S208) ![120] S16.size inb_S208_S16_120).toLoadRect w3
  let v497 := (w3S).view.readAt (Elt F) (Rect.unit (s := S208) ![126] S16.size inb_S208_S16_126).toLoadRect w3
  let v504 := (w3S).view.readAt (Elt F) (Rect.unit (s := S208) ![132] S16.size inb_S208_S16_132).toLoadRect w3
  let v511 := (w3S).view.readAt (Elt F) (Rect.unit (s := S208) ![138] S16.size inb_S208_S16_138).toLoadRect w3
  let v508 := k0_pay45 v345 v459 v461 v462 v469 v476 v483 v490 v497 v504
  let v514 := k0_pay46 v345 v511
  let v518 := (w3S).view.readAt (Elt F) (Rect.unit (s := S208) ![144] S16.size inb_S208_S16_144).toLoadRect w3
  let v525 := (w3S).view.readAt (Elt F) (Rect.unit (s := S208) ![150] S16.size inb_S208_S16_150).toLoadRect w3
  let v532 := (w3S).view.readAt (Elt F) (Rect.unit (s := S208) ![156] S16.size inb_S208_S16_156).toLoadRect w3
  let v539 := (w3S).view.readAt (Elt F) (Rect.unit (s := S208) ![162] S16.size inb_S208_S16_162).toLoadRect w3
  let v546 := (w3S).view.readAt (Elt F) (Rect.unit (s := S208) ![168] S16.size inb_S208_S16_168).toLoadRect w3
  let v553 := (w3S).view.readAt (Elt F) (Rect.unit (s := S208) ![174] S16.size inb_S208_S16_174).toLoadRect w3
  let v560 := (w3S).view.readAt (Elt F) (Rect.unit (s := S208) ![180] S16.size inb_S208_S16_180).toLoadRect w3
  k0_pay47 v345 v508 v514 v518 v525 v532 v539 v546 v553 v560

/-- The probabilities as a vector, from the two halves of the second hidden layer. -/
def vecOut (v343 v345 : FVec F S16 .f32) (w3 : (w3S).view.ty.Contents (Elt F)) (b3 : (b3S).view.ty.Contents (Elt F)) : FVec F S16 .f32 :=
  k0_pay49 (iota .scVector S16 32 [0] iota_S16_d0_w32_scVector) (vecLog v343 v345 w3 b3) (k0_pay48 v345)
    ((w3S).view.readAt (Elt F) (Rect.unit (s := S208) ![186] S16.size inb_S208_S16_186).toLoadRect w3)

/-- The vector the kernel stores, from the vector that starts with the row and what the scratches hold. -/
def vecAll (v29 : FVec F S16 .f32) (w1 : (w1S).view.ty.Contents (Elt F)) (b1 : (b1S).view.ty.Contents (Elt F)) (w2 : (w2S).view.ty.Contents (Elt F)) (b2 : (b2S).view.ty.Contents (Elt F))
    (w3 : (w3S).view.ty.Contents (Elt F)) (b3 : (b3S).view.ty.Contents (Elt F)) : FVec F S16 .f32 :=
  vecOut (vecLo (vecH1 v29 w1 b1) w2 b2) (vecHi (vecH1 v29 w1 b1) w2 b2) w3 b3

/-! ## Loads and casts, read at an element -/

/-- Sixteen lanes given their own shape are themselves. -/
theorem cast_16 (v : S16.Idx → F .f32) (h : S16.ShapeCasts S16) (j : Fin 16) : shapeCast S16 v h (ix1 j) = v (ix1 j) := congrFun (shapeCast_self v h) _

/-- A row of sixteen given the shape of sixteen lanes keeps its lanes. -/
theorem cast_1x16 (v : S1x16.Idx → F .f32) (h : S1x16.ShapeCasts S16) (j : Fin 16) : shapeCast S16 v h (ix1 j) = v (ix2 0 j) :=
  (shapeCast_dropUnit_apply ![16] v h (ix1 j)).trans (congrArg v (funext fun a => match a with
    | 0 => rfl
    | 1 => rfl))

/-- A lane of row `i` of the first weights, as loaded. -/
theorem ld_w1 (w1 : (w1S).view.ty.Contents (Elt F)) (i : ℕ) (hi : i < 10) (inb : ∀ a, (![i, 0] : Fin 2 → ℕ) a + (![1, 16] : Fin 2 → ℕ) a ≤ S10x16.size a) (j : Fin 16) :
    View.readAt (Elt F) (View.whole cc0_scratch2) (Rect.unit (s := S10x16) ![i, 0] ![1, 16] inb).toLoadRect w1 (ix2 0 j) = w1 (ix2 ⟨i, hi⟩ j) :=
  congrArg w1 (funext fun a => match a with
    | 0 => Fin.ext (show i + 1 * 0 = i by omega)
    | 1 => Fin.ext (show 0 + 1 * j.val = j.val by omega))

/-- A lane of row `i` of the second weights from column `o` on, as loaded. -/
theorem ld_w2 (w2 : (w2S).view.ty.Contents (Elt F)) (i o : ℕ) (hi : i < 16) (ho : o ≤ 16) (inb : ∀ a, (![i, o] : Fin 2 → ℕ) a + (![1, 16] : Fin 2 → ℕ) a ≤ S16x32.size a) (j : Fin 16) :
    View.readAt (Elt F) (View.whole cc0_scratch4) (Rect.unit (s := S16x32) ![i, o] ![1, 16] inb).toLoadRect w2 (ix2 0 j) = w2 (ix2 ⟨i, hi⟩ ⟨o + j.val, by omega⟩) :=
  congrArg w2 (funext fun a => match a with
    | 0 => Fin.ext (show i + 1 * 0 = i by omega)
    | 1 => Fin.ext (show o + 1 * j.val = o + j.val by omega))

/-- A lane of the first bias, as loaded. -/
theorem ld_b1 (b1 : (b1S).view.ty.Contents (Elt F)) (inb : ∀ a, (![0] : Fin 1 → ℕ) a + (![16] : Fin 1 → ℕ) a ≤ S16.size a) (j : Fin 16) :
    View.readAt (Elt F) (View.whole cc0_scratch3) (Rect.unit (s := S16) ![0] ![16] inb).toLoadRect b1 (ix1 j) = b1 (ix1 j) :=
  congrArg b1 (funext fun a => match a with | 0 => Fin.ext (show 0 + 1 * j.val = j.val by omega))

/-- A lane of the second bias from element `o` on, as loaded. -/
theorem ld_b2 (b2 : (b2S).view.ty.Contents (Elt F)) (o : ℕ) (ho : o ≤ 16) (inb : ∀ a, (![o] : Fin 1 → ℕ) a + (![16] : Fin 1 → ℕ) a ≤ S32.size a) (j : Fin 16) :
    View.readAt (Elt F) (View.whole cc0_scratch5) (Rect.unit (s := S32) ![o] ![16] inb).toLoadRect b2 (ix1 j) = b2 (ix1 ⟨o + j.val, by omega⟩) :=
  congrArg b2 (funext fun a => match a with | 0 => Fin.ext (show o + 1 * j.val = o + j.val by omega))

/-- A lane of the flat last weights from element `o` on, as loaded. -/
theorem ld_w3 (w3 : (w3S).view.ty.Contents (Elt F)) (o : ℕ) (ho : o ≤ 192) (inb : ∀ a, (![o] : Fin 1 → ℕ) a + (![16] : Fin 1 → ℕ) a ≤ S208.size a) (j : Fin 16) :
    View.readAt (Elt F) (View.whole cc0_scratch6) (Rect.unit (s := S208) ![o] ![16] inb).toLoadRect w3 (ix1 j) = w3 (ix1 ⟨o + j.val, by omega⟩) :=
  congrArg w3 (funext fun a => match a with | 0 => Fin.ext (show o + 1 * j.val = o + j.val by omega))

/-- A lane of the last bias, as loaded. -/
theorem ld_b3 (b3 : (b3S).view.ty.Contents (Elt F)) (inb : ∀ a, (![0] : Fin 1 → ℕ) a + (![16] : Fin 1 → ℕ) a ≤ S16.size a) (j : Fin 16) :
    View.readAt (Elt F) (View.whole cc0_scratch7) (Rect.unit (s := S16) ![0] ![16] inb).toLoadRect b3 (ix1 j) = b3 (ix1 j) :=
  congrArg b3 (funext fun a => match a with | 0 => Fin.ext (show 0 + 1 * j.val = j.val by omega))

/-! ## The vectors, read at an element -/

/-- Each element of the first hidden layer's vector. -/
theorem vecH1_lane (e : FVec F S16 .f32) (w1 : (w1S).view.ty.Contents (Elt F)) (b1 : (b1S).view.ty.Contents (Elt F)) (j : Fin 16) :
    vecH1 e w1 b1 (ix1 j) = hidden1 (fun i => e (ix1 (i.castLE (by decide)))) w1 b1 j := by
  unfold vecH1
  pointwise [k0_pay3, k0_pay4, k0_pay5, k0_pay6]
  simp (discharger := omega) only [cast_16, cast_1x16, ld_w1, ld_b1]
  rfl

/-- Each element of the second hidden layer's first vector. -/
theorem vecLo_lane (h : FVec F S16 .f32) (w2 : (w2S).view.ty.Contents (Elt F)) (b2 : (b2S).view.ty.Contents (Elt F)) (j : Fin 16) :
    vecLo h w2 b2 (ix1 j) = hidden2 (fun k => h (ix1 k)) w2 b2 (Fin.castAdd 16 j) := by
  unfold vecLo pick
  pointwise [k0_pay7, k0_pay10, k0_pay12, k0_pay13, k0_pay15, k0_pay16, k0_pay17, k0_pay18, k0_pay19, k0_pay20, k0_pay22, k0_pay23, k0_pay24, k0_pay25,
    k0_pay27, k0_pay28, k0_pay29, k0_pay30, k0_pay31, k0_pay33, k0_pay34, k0_pay35, k0_pay36, k0_pay37]
  simp (discharger := omega) only [cast_16, cast_1x16, ld_w2, ld_b2, Nat.zero_add]
  rfl

/-- Each element of the second hidden layer's second vector. -/
theorem vecHi_lane (h : FVec F S16 .f32) (w2 : (w2S).view.ty.Contents (Elt F)) (b2 : (b2S).view.ty.Contents (Elt F)) (j : Fin 16) :
    vecHi h w2 b2 (ix1 j) = hidden2 (fun k => h (ix1 k)) w2 b2 (Fin.natAdd 16 j) := by
  unfold vecHi pick
  pointwise [k0_pay8, k0_pay12, k0_pay13, k0_pay14, k0_pay15, k0_pay17, k0_pay18, k0_pay19, k0_pay21, k0_pay22, k0_pay23, k0_pay24, k0_pay26,
    k0_pay27, k0_pay30, k0_pay31, k0_pay32, k0_pay33, k0_pay35, k0_pay36, k0_pay38]
  simp (discharger := omega) only [cast_16, cast_1x16, ld_w2, ld_b2]
  rfl

set_option maxRecDepth 16384 in
/-- Each element of the vector of logits, but for their last term. -/
theorem vecLog_lane (lo hi : FVec F S16 .f32) (w3 : (w3S).view.ty.Contents (Elt F)) (b3 : (b3S).view.ty.Contents (Elt F)) (j : Fin 16) :
    vecLog lo hi w3 b3 (ix1 j)
      = dotAcc 31 (fun k => if h : k.val < 16 then lo (ix1 ⟨k.val, h⟩) else hi (ix1 ⟨k.val - 16, by omega⟩)) (fun k => w3 (ix1 ⟨6 * k.val + j.val, by omega⟩)) (b3 (ix1 j)) := by
  unfold vecLog pick
  pointwise [k0_pay41, k0_pay42, k0_pay43, k0_pay44, k0_pay45, k0_pay46, k0_pay47]
  simp (discharger := omega) only [cast_16, ld_w3, ld_b3]
  rfl

/-- Each of the first six elements of the vector the kernel stores is the softmax of the first six logits: the other lanes do not enter it. -/
theorem pay49_lane (v : FVec F S16 .f32) (s : F .f32) (w : Vec F S16 .f32) (j : Fin 6) :
    k0_pay49 (iota .scVector S16 32 [0] iota_S16_d0_w32_scVector) v s w (ix1 (j.castLE (by decide)))
      = soft (fun i => FloatOps.addf (v (ix1 (i.castLE (by decide)))) (FloatOps.mulf s (w (ix1 (i.castLE (by decide)))))) j := by
  unfold k0_pay49
  pointwise
  simp only [cast_16]
  have hs : ∀ a b : F .f32, Scalar.select 1#1 a b = a := fun _ _ => rfl
  have hj : IntOp.cmpi .slt (iota .scVector S16 32 [0] iota_S16_d0_w32_scVector (ix1 (j.castLE (by decide)))) 6#32 = 1#1 := by revert j; decide
  simp only [show IntOp.cmpi .slt 0#32 6#32 = 1#1 by decide, show IntOp.cmpi .slt 1#32 6#32 = 1#1 by decide, show IntOp.cmpi .slt 2#32 6#32 = 1#1 by decide,
    show IntOp.cmpi .slt 3#32 6#32 = 1#1 by decide, show IntOp.cmpi .slt 4#32 6#32 = 1#1 by decide, show IntOp.cmpi .slt 5#32 6#32 = 1#1 by decide, hs]
  change FloatOps.divf (FloatOps.exp (FloatOps.subf (Scalar.select (IntOp.cmpi .slt (iota .scVector S16 32 [0] iota_S16_d0_w32_scVector (ix1 (j.castLE (by decide)))) 6#32) (_ : F .f32) _) _)) _ = _
  rw [hj, hs, shapeCast_self]
  rfl

/-- The vector that starts with the row is the loaded one. -/
theorem pay2_eq (v : Vec F S16 .f32) : k0_pay2 v = v := shapeCast_self v _

/-- The last number of a half of the second hidden layer. -/
theorem pay48_eq (v : FVec F S16 .f32) : k0_pay48 v = v (ix1 15) := by
  unfold k0_pay48
  pointwise

/-- The two halves of the second hidden layer side by side are that layer. -/
theorem halves_eq (h : FVec F S16 .f32) (w2 : (w2S).view.ty.Contents (Elt F)) (b2 : (b2S).view.ty.Contents (Elt F)) (k : Fin 32) :
    (if hk : k.val < 16 then vecLo h w2 b2 (ix1 ⟨k.val, hk⟩) else vecHi h w2 b2 (ix1 ⟨k.val - 16, by omega⟩)) = hidden2 (fun i => h (ix1 i)) w2 b2 k := by
  split
  · next hk => exact vecLo_lane h w2 b2 ⟨k.val, hk⟩
  · next hk => exact (vecHi_lane h w2 b2 ⟨k.val - 16, by omega⟩).trans (congrArg _ (Fin.ext (show 16 + (k.val - 16) = k.val by omega)))

/-- The vector the kernel stores begins with the network's six probabilities, when the vector it starts from begins with the state's row
and the last two scratches begin with the last weights and bias. -/
theorem vecAll_policy (v29 : FVec F S16 .f32) (w1 : (w1S).view.ty.Contents (Elt F)) (b1 : (b1S).view.ty.Contents (Elt F)) (w2 : (w2S).view.ty.Contents (Elt F)) (b2 : (b2S).view.ty.Contents (Elt F))
    (c3 : (w3S).view.ty.Contents (Elt F)) (c4 : (b3S).view.ty.Contents (Elt F)) (x : S1.Idx → BitVec 32) (t : S5000.Idx → F .f32) (w3 : S192.Idx → F .f32) (b3 : S6.Idx → F .f32)
    (hv : ∀ i : Fin 10, v29 (ix1 (i.castLE (by decide))) = row x t i) (hw : ∀ i : Fin 192, c3 (ix1 (i.castLE (by decide))) = w3 (ix1 i))
    (hb : ∀ i : Fin 6, c4 (ix1 (i.castLE (by decide))) = b3 (ix1 i)) (j : Fin 6) :
    vecAll v29 w1 b1 w2 b2 c3 c4 (ix1 (j.castLE (by decide))) = policy x t w1 b1 w2 b2 w3 b3 (ix1 j) := by
  unfold vecAll vecOut
  rw [pay49_lane]
  refine congrArg (fun l => soft l j) (funext fun i => ?_)
  rw [vecLog_lane, pay48_eq]
  have hh : hidden1 (row x t) w1 b1 = fun k => vecH1 v29 w1 b1 (ix1 k) := funext fun k => by
    rw [vecH1_lane]; exact congrArg (fun e => hidden1 e w1 b1 k) (funext fun i => (hv i).symm)
  unfold logit
  rw [hh, ← funext (halves_eq (vecH1 v29 w1 b1) w2 b2), ← hb i, ← funext fun k : Fin 32 => hw ⟨6 * k.val + i.val, by omega⟩]
  rw [dotAcc]
  refine congrArg₂ _ rfl (congrArg _ ?_)
  exact ld_w3 c3 186 (by decide) _ _

end Cert.Proof.Policy
-- ==== Proof.Tile.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Vectors

@[expose] public section

noncomputable section

namespace Cert.Proof.Policy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the SparseCore's launch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's body -/

abbrev cV (L : grid0.Coords) : Fin τ.nSC := (L 0).castLE hcore0
abbrev jV (L : grid0.Coords) : Fin τ.nSub := (L 1).castLE hsub0

/-- The tile's thread on device `d`. -/
abbrev thr (d : Dev nD) (L : grid0.Coords) : Thread nD τ := V d (cV L) (jV L)

/-- The grid has one point, and the kernel's work is under the condition that the tile is that one. -/
theorem cond_one (L : grid0.Coords) : k0_cond1 L = 1#1 := by
  have h : L = fun | 0 => (0 : Fin 1) | 1 => (0 : Fin 1) := by
    funext a; match a with
    | 0 => exact Subsingleton.elim (α := Fin 1) _ _
    | 1 => exact Subsingleton.elim (α := Fin 1) _ _
  rw [h]; decide

/-- The semaphores of the nine copies. -/
def cells : Finset (SemLoc sig) :=
  {.dma cc0_scratch9.sem, .dma cc0_scratch10.sem, .dma cc0_scratch11.sem, .dma cc0_scratch12.sem, .dma cc0_scratch13.sem, .dma cc0_scratch14.sem,
    .dma cc0_scratch15.sem, .dma cc0_scratch16.sem, .dma cc0_scratch17.sem}

/-- The nine scratch buffers. -/
def scrs : Finset (Ref sig .scVector) :=
  {cc0_scratch0, cc0_scratch1, cc0_scratch2, cc0_scratch3, cc0_scratch4, cc0_scratch5, cc0_scratch6, cc0_scratch7, cc0_scratch8}

/-- The tile's nine semaphores last as long as the tile's body. -/
theorem cells_scoped : ∀ s ∈ cells, s.isScoped .scVector = true := by decide

/-- A semaphore of a thread, as an injection. -/
def cellEmb (c : Thread nD τ) : SemLoc sig ↪ GSem nD τ sig := ⟨fun s => (c, s), fun _ _ h => congrArg Prod.snd h⟩
/-- A tile's buffer on its device, as an injection. -/
def scrEmb (L : grid0.Coords) : Ref sig .scVector ↪ DevRef τ sig := ⟨(Proc.scVector (cV L) (jV L)).devRef, Proc.devRef_injective _⟩

/-- Of the tile's semaphores, one by one. -/
theorem bigSep_cells (Φ : SemLoc sig → sProp 𝕄) :
    bigSep cells Φ = iprop(Φ (.dma cc0_scratch9.sem) ∗ Φ (.dma cc0_scratch10.sem) ∗ Φ (.dma cc0_scratch11.sem) ∗ Φ (.dma cc0_scratch12.sem)
      ∗ Φ (.dma cc0_scratch13.sem) ∗ Φ (.dma cc0_scratch14.sem) ∗ Φ (.dma cc0_scratch15.sem) ∗ Φ (.dma cc0_scratch16.sem) ∗ Φ (.dma cc0_scratch17.sem)) := by
  unfold cells
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- Of the tile's scratch buffers, one by one. -/
theorem bigSep_scrs (Φ : Ref sig .scVector → sProp 𝕄) :
    bigSep scrs Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8) := by
  unfold scrs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The nine cells are among the tile's own: they are them, at zero, and the rest. -/
theorem ownSems0_V (d : Dev nD) (L : grid0.Coords) :
    (ownSems0 (thr d L) : sProp 𝕄)
      = iprop((semVal (thr d L, .dma cc0_scratch9.sem) 0 ∗ semVal (thr d L, .dma cc0_scratch10.sem) 0 ∗ semVal (thr d L, .dma cc0_scratch11.sem) 0
          ∗ semVal (thr d L, .dma cc0_scratch12.sem) 0 ∗ semVal (thr d L, .dma cc0_scratch13.sem) 0 ∗ semVal (thr d L, .dma cc0_scratch14.sem) 0
          ∗ semVal (thr d L, .dma cc0_scratch15.sem) 0 ∗ semVal (thr d L, .dma cc0_scratch16.sem) 0 ∗ semVal (thr d L, .dma cc0_scratch17.sem) 0)
          ∗ bigSep (ownCells (thr d L) \ cells.map (cellEmb (thr d L))) fun g => semVal g 0) := by
  unfold SparseCore.Cfg.ownSems0
  rw [SparseCore.bigSep_sdiff_split' (t := cells.map (cellEmb (thr d L))) (by
    intro g hg
    obtain ⟨s, hs, rfl⟩ := Finset.mem_map.mp hg
    exact mem_ownCells.mpr ⟨rfl, cells_scoped s hs⟩), BI.bigSep_map, bigSep_cells]
  rfl

/-- The nine scratch buffers are among the tile's own: they are them, at some contents, and the rest. -/
theorem ownBufs_V (d : Dev nD) (L : grid0.Coords) :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f) ∗ (∃ f, (thr d L).loc cc0_scratch5 ↦{fullShare} f)
          ∗ (∃ f, (thr d L).loc cc0_scratch6 ↦{fullShare} f) ∗ (∃ f, (thr d L).loc cc0_scratch7 ↦{fullShare} f) ∗ (∃ f, (thr d L).loc cc0_scratch8 ↦{fullShare} f))
          ∗ bigSep (ownRefs (τ := τ) (.scVector (cV L) (jV L)) \ scrs.map (scrEmb L)) fun b => iprop(∃ f, ((d, b) : Loc nD τ sig) ↦{fullShare} f)) := by
  unfold SparseCore.Cfg.ownBufs
  rw [SparseCore.bigSep_sdiff_split' (t := scrs.map (scrEmb L)) (by
    intro b hb
    obtain ⟨r, hr, rfl⟩ := Finset.mem_map.mp hb
    simp only [scrs, Finset.mem_insert, Finset.mem_singleton] at hr
    rcases hr with rfl | rfl | rfl | rfl | rfl | rfl | rfl | rfl | rfl <;> exact SparseCore.Cfg.mem_ownRefs_of_owner (p := Proc.scVector (cV L) (jV L)) rfl),
    BI.bigSep_map, bigSep_scrs]
  rfl

variable [FloatOps F]

/-- The kernel's body on the one tile. -/
abbrev body (L : grid0.Coords) : Prog (TpuEff nD τ sig (Elt F) Λ₀ (.scVector (cV L) (jV L))) PUnit :=
  cc0__policy_body L xH (Memref.isWhole_whole _) tH (Memref.isWhole_whole _) w1H (Memref.isWhole_whole _) b1H (Memref.isWhole_whole _) w2H (Memref.isWhole_whole _) b2H (Memref.isWhole_whole _) w3H (Memref.isWhole_whole _) b3H (Memref.isWhole_whole _) oH (Memref.isWhole_whole _) xS (Memref.isWhole_whole _) tS (Memref.isWhole_whole _) w1S (Memref.isWhole_whole _) b1S (Memref.isWhole_whole _) w2S (Memref.isWhole_whole _) b2S (Memref.isWhole_whole _) w3S (Memref.isWhole_whole _) b3S (Memref.isWhole_whole _) oS (Memref.isWhole_whole _) cc0_scratch9 cc0_scratch10 cc0_scratch11 cc0_scratch12 cc0_scratch13 cc0_scratch14 cc0_scratch15 cc0_scratch16 cc0_scratch17

/-- The word in the first place of a state vector that a copy has just filled at its first place: the copied word. -/
theorem word_eq (sx : (xS).view.ty.Contents (Elt F)) (p : S1.Idx → BitVec 32) :
    extractAt ![0] (k0_pay1 (View.readAt (Elt F) xS.view (Rect.unit ![0] S16.size inb_S16_S16_0).toLoadRect
      (xS.view.writes (Elt F) sx [⟨Rect.unit ![0] S1.size inb_S16_S1_0, p⟩]))) inpos_S1_p0 = p (ix1 0) := by
  rw [View.readAt_full]
  unfold k0_pay1
  pointwise
  exact View.read_writes_cons_unit_of_mem (Val := Elt F) (v := (xS).view) sx inb_S16_S1_0 p [] (ix1 0) (ix1 0) rfl (by decide)

/-- A state in range: the load of its row is inside the table. -/
theorem chk_of_lt (L : grid0.Coords) (v : BitVec 32) (hv : v.toNat < 500) : k0_chk1 L v := by
  intro _ a
  match a with
  | 0 =>
    show (v * 10#32).toNat + 16 ≤ 5016
    rw [BitVec.toNat_mul]
    show v.toNat * 10 % 2 ^ 32 + 16 ≤ 5016
    rw [Nat.mod_eq_of_lt (by omega)]
    omega

/-- A load of the table at ten times a state in range reads the state's row first, once a copy has filled the table's places. -/
theorem row_read (v : BitVec 32) (hv : v.toNat < 500) (st : (tS).view.ty.Contents (Elt F)) (p : S5000.Idx → Elt F .f32)
    (inb : ∀ a, k0_off1 v a + S16.size a ≤ S5016.size a) (i : Fin 10) :
    (tS).view.readAt (Elt F) (Rect.unit (s := S5016) (k0_off1 v) S16.size inb).toLoadRect
      ((tS).view.writes (Elt F) st [⟨Rect.unit (s := S5016) ![0] S5000.size inb_S5016_S5000_0, p⟩]) (ix1 (i.castLE (by decide)))
      = p (ix1 (Fin.ofNat 5000 (10 * v.toNat + i.val))) := by
  have ho : k0_off1 v 0 = 10 * v.toNat := by
    show (v * 10#32).toNat = _
    rw [BitVec.toNat_mul]
    show v.toNat * 10 % 2 ^ 32 = _
    rw [Nat.mod_eq_of_lt (by omega)]
    omega
  exact View.read_writes_cons_unit_of_mem (Val := Elt F) (v := (tS).view) st inb_S5016_S5000_0 p [] _ (ix1 (Fin.ofNat 5000 (10 * v.toNat + i.val)) : S5000.Idx) rfl
    (fun a => match a with
      | 0 => by
        show k0_off1 v 0 + 1 * i.val = 0 + (10 * v.toNat + i.val) % 5000
        rw [ho, Nat.mod_eq_of_lt (by omega)]
        omega)

/-- A load inside what a copy has filled of the last weights' scratch, whatever the scratch held before. -/
theorem w3_cov (f : (w3S).view.ty.Contents (Elt F)) (p : S192.Idx → Elt F .f32) (o : ℕ) (ho : o + 16 ≤ 192) (inb : ∀ a, (![o] : Fin 1 → ℕ) a + S16.size a ≤ S208.size a) :
    (w3S).view.readCov (Val := Elt F) [⟨Rect.unit (s := S208) ![0] S192.size inb_S208_S192_0, p⟩] (Rect.unit (s := S208) ![o] S16.size inb).toLoadRect
      = (w3S).view.readAt (Elt F) (Rect.unit (s := S208) ![o] S16.size inb).toLoadRect ((w3S).view.writes (Elt F) f [⟨Rect.unit (s := S208) ![0] S192.size inb_S208_S192_0, p⟩]) := by
  funext j
  have hj : (j 0).val < 16 := (j 0).isLt
  have h : ∀ g, (w3S).view.readAt (Elt F) (Rect.unit (s := S208) ![o] S16.size inb).toLoadRect ((w3S).view.writes (Elt F) g [⟨Rect.unit (s := S208) ![0] S192.size inb_S208_S192_0, p⟩]) j
      = p (ix1 ⟨o + (j 0).val, by omega⟩) := fun g =>
    View.read_writes_cons_unit_of_mem (Val := Elt F) (v := (w3S).view) g inb_S208_S192_0 p [] _ (ix1 ⟨o + (j 0).val, by omega⟩ : S192.Idx) rfl
      (fun a => match a with | 0 => by show o + 1 * (j 0).val = 0 + (o + (j 0).val); omega)
  exact (h _).trans (h _).symm

section Run

variable (d : Dev nD) (L : grid0.Coords)
variable (x : Buf (Elt F) ((xH).view.loc (thr d L)))
variable (t : Buf (Elt F) ((tH).view.loc (thr d L)))
variable (w1 : Buf (Elt F) ((w1H).view.loc (thr d L)))
variable (b1 : Buf (Elt F) ((b1H).view.loc (thr d L)))
variable (w2 : Buf (Elt F) ((w2H).view.loc (thr d L)))
variable (b2 : Buf (Elt F) ((b2H).view.loc (thr d L)))
variable (w3 : Buf (Elt F) ((w3H).view.loc (thr d L)))
variable (b3 : Buf (Elt F) ((b3H).view.loc (thr d L)))
variable (o : Buf (Elt F) ((oH).view.loc (thr d L)))

/-- The eight operands the tile reads, whole. -/
abbrev ins : sProp 𝕄 := iprop(((xH).view.loc (thr d L) ↦{fullShare} x) ∗ ((tH).view.loc (thr d L) ↦{fullShare} t) ∗ ((w1H).view.loc (thr d L) ↦{fullShare} w1) ∗ ((b1H).view.loc (thr d L) ↦{fullShare} b1) ∗ ((w2H).view.loc (thr d L) ↦{fullShare} w2) ∗ ((b2H).view.loc (thr d L) ↦{fullShare} b2) ∗ ((w3H).view.loc (thr d L) ↦{fullShare} w3) ∗ ((b3H).view.loc (thr d L) ↦{fullShare} b3))

set_option maxHeartbeats 4000000 in
/-- The body of the one tile, from the call's arrays: it ends with the policy in the result, the operands as they were and its semaphores at zero. -/
theorem tile_body (hF : (K (F := F)).Facts) (hx : BitVec.toNat (x (ix1 0 : S1.Idx)) < 500) (O : CellTallies nD τ sig (HIx 1)) (W : Waits sig (HIx 1)) (hO : ∀ g, O g none = 0) :
    iprop(levAts (K (F := F)).L (K (F := F)).lev ∗ emp
        ∗ (ins d L x t w1 b1 w2 b2 w3 b3 ∗ ((oH).view.loc (thr d L) ↦{fullShare} o))
        ∗ scopedBufs (thr d L) ∗ scopedSems0 (thr d L) ∗ owes (thr d L) O W)
      ⊢ wp frame (wpE (defs₀ (F := F)) 𝒱₀ (thr d L) none) Set.univ (body L)
          fun _ => iprop((ins d L x t w1 b1 w2 b2 w3 b3 ∗ ((oH).view.loc (thr d L) ↦{fullShare} (policy x t w1 b1 w2 b2 w3 b3 : Buf (Elt F) ((oH).view.loc (thr d L)))))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold body
  simp only [cc0__policy_body_eq_skeleton]; unfold cc0__policy_body_skel
  simp only [cond_one, ↓reduceDIte]
  iintro ⟨#Hlv, -, ⟨⟨Hx, Ht, Hw1, Hb1, Hw2, Hb2, Hw3, Hb3⟩, Ho⟩, ⟨⟨⟨%sx, Sx⟩, ⟨%st, St⟩, ⟨%sw1, Sw1⟩, ⟨%sb1, Sb1⟩, ⟨%sw2, Sw2⟩, ⟨%sb2, Sb2⟩, ⟨%sw3, Sw3⟩, ⟨%sb3, Sb3⟩, ⟨%so, So⟩⟩, Hbufs⟩,
    ⟨⟨Cx, Ct, Cw1, Cb1, Cw2, Cb2, Cw3, Cb3, Co⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Sx' := (Entails.of_eq (show ((thr d L).loc cc0_scratch0 ↦{fullShare} sx : sProp 𝕄) = ((xS).view.loc (thr d L) ↦{fullShare} sx) from rfl)) $$ Sx
  ihave St' := (Entails.of_eq (show ((thr d L).loc cc0_scratch1 ↦{fullShare} st : sProp 𝕄) = ((tS).view.loc (thr d L) ↦{fullShare} st) from rfl)) $$ St
  ihave Sw1' := (Entails.of_eq (show ((thr d L).loc cc0_scratch2 ↦{fullShare} sw1 : sProp 𝕄) = ((w1S).view.loc (thr d L) ↦{fullShare} sw1) from rfl)) $$ Sw1
  ihave Sb1' := (Entails.of_eq (show ((thr d L).loc cc0_scratch3 ↦{fullShare} sb1 : sProp 𝕄) = ((b1S).view.loc (thr d L) ↦{fullShare} sb1) from rfl)) $$ Sb1
  ihave Sw2' := (Entails.of_eq (show ((thr d L).loc cc0_scratch4 ↦{fullShare} sw2 : sProp 𝕄) = ((w2S).view.loc (thr d L) ↦{fullShare} sw2) from rfl)) $$ Sw2
  ihave Sb2' := (Entails.of_eq (show ((thr d L).loc cc0_scratch5 ↦{fullShare} sb2 : sProp 𝕄) = ((b2S).view.loc (thr d L) ↦{fullShare} sb2) from rfl)) $$ Sb2
  ihave Sw3' := (Entails.of_eq (show ((thr d L).loc cc0_scratch6 ↦{fullShare} sw3 : sProp 𝕄) = ((w3S).view.loc (thr d L) ↦{fullShare} sw3) from rfl)) $$ Sw3
  ihave Sb3' := (Entails.of_eq (show ((thr d L).loc cc0_scratch7 ↦{fullShare} sb3 : sProp 𝕄) = ((b3S).view.loc (thr d L) ↦{fullShare} sb3) from rfl)) $$ Sb3
  ihave So' := (Entails.of_eq (show ((thr d L).loc cc0_scratch8 ↦{fullShare} so : sProp 𝕄) = ((oS).view.loc (thr d L) ↦{fullShare} so) from rfl)) $$ So
  ihave Ho' := (Entails.of_eq (show (((View.whole main_v2_scv).loc (thr d L)) ↦{fullShare} o : sProp 𝕄) = ((oH).view.loc (thr d L) ↦{fullShare} o) from rfl)) $$ Ho
  sl_open_parts
  sl_exec
  have hchk := chk_of_lt L _ ((congrArg BitVec.toNat (word_eq (F := F) sx (tile_body.sl.dma0 d L x))).trans_lt hx)
  sl_exec
  have hSo : tile_body.sl.So'_1 (F := F) d L x t w1 b1 w2 b2 w3 b3 sx st sw1 sb1 sw2 sb2 sw3 sb3 hchk
      = [⟨Rect.unit (s := S16) ![0] S16.size inb_S16_S16_0, vecAll (k0_pay2 (tile_body.sl.v28 d L x t sx st hchk))
          (View.write (Elt F) (w1S).view sw1 (tile_body.sl.dma0_2 d L w1) Finset.univ) (View.write (Elt F) (b1S).view sb1 (tile_body.sl.dma0_3 d L b1) Finset.univ)
          (View.write (Elt F) (w2S).view sw2 (tile_body.sl.dma0_4 d L w2) Finset.univ) (View.write (Elt F) (b2S).view sb2 (tile_body.sl.dma0_5 d L b2) Finset.univ)
          ((w3S).view.writes (Elt F) sw3 [⟨Rect.unit (s := S208) ![0] S192.size inb_S208_S192_0, tile_body.sl.dma0_6 d L w3⟩])
          ((b3S).view.writes (Elt F) sb3 [⟨Rect.unit (s := S16) ![0] S6.size inb_S16_S6_0, tile_body.sl.dma0_7 d L b3⟩])⟩] := by
    clear * -
    unfold tile_body.sl.So'_1 vecAll vecOut
    dsimp only
    dsimp only [k0_pay9, k0_pay11, k0_pay39, k0_pay40]
    have h1 := vecH1.eq_1 (F := F) (k0_pay2 (tile_body.sl.v28 d L x t sx st hchk)) (View.write (Elt F) (w1S).view sw1 (tile_body.sl.dma0_2 d L w1) Finset.univ) (View.write (Elt F) (b1S).view sb1 (tile_body.sl.dma0_3 d L b1) Finset.univ)
    dsimp only [pick] at h1
    rw [← h1]
    clear h1
    generalize @vecH1 F _ _ _ _ = h
    have h2 := vecLo.eq_1 (F := F) h (View.write (Elt F) (w2S).view sw2 (tile_body.sl.dma0_4 d L w2) Finset.univ) (View.write (Elt F) (b2S).view sb2 (tile_body.sl.dma0_5 d L b2) Finset.univ)
    dsimp only [pick] at h2
    rw [← h2]
    clear h2
    have h3 := vecHi.eq_1 (F := F) h (View.write (Elt F) (w2S).view sw2 (tile_body.sl.dma0_4 d L w2) Finset.univ) (View.write (Elt F) (b2S).view sb2 (tile_body.sl.dma0_5 d L b2) Finset.univ)
    dsimp only [pick] at h3
    rw [← h3]
    clear h3
    generalize @vecHi F _ h _ _ = hi
    generalize @vecLo F _ h _ _ = lo
    have h4 := vecLog.eq_1 (F := F) lo hi ((w3S).view.writes (Elt F) sw3 [⟨Rect.unit (s := S208) ![0] S192.size inb_S208_S192_0, tile_body.sl.dma0_6 d L w3⟩])
        ((b3S).view.writes (Elt F) sb3 [⟨Rect.unit (s := S16) ![0] S6.size inb_S16_S6_0, tile_body.sl.dma0_7 d L b3⟩])
    dsimp only [pick] at h4
    unfold tile_body.sl.v350 tile_body.sl.v357 tile_body.sl.v364 tile_body.sl.v371 tile_body.sl.v378 tile_body.sl.v385 tile_body.sl.v392 tile_body.sl.v399 tile_body.sl.v406 tile_body.sl.v413 tile_body.sl.v420 tile_body.sl.v427 tile_body.sl.v434 tile_body.sl.v441 tile_body.sl.v448 tile_body.sl.v455 tile_body.sl.v462 tile_body.sl.v469 tile_body.sl.v476 tile_body.sl.v483 tile_body.sl.v490 tile_body.sl.v497 tile_body.sl.v504 tile_body.sl.v511 tile_body.sl.v518 tile_body.sl.v525 tile_body.sl.v532 tile_body.sl.v539 tile_body.sl.v546 tile_body.sl.v553
    simp (discharger := omega) only [w3_cov sw3]
    rw [← h4]
  have hval : (View.write (Elt F) (oH).view o (tile_body.sl.dma81 d L x t w1 b1 w2 b2 w3 b3 sx st sw1 sb1 sw2 sb2 sw3 sb3 so hchk) Finset.univ) = policy x t w1 b1 w2 b2 w3 b3 := by
    rw [View.write_whole_univ]
    unfold tile_body.sl.dma81
    rw [hSo]
    funext j
    refine (View.read_writes_cons_unit_of_mem (Val := Elt F) (v := (oS).view) so inb_S16_S16_0 _ [] ((Rect.unit (s := S16) ![0] S6.size inb_S16_S6_0).emb j)
      (ix1 ((j 0).castLE (by decide)) : S16.Idx) rfl (fun a => match a with | 0 => by show 0 + 1 * (j 0).val = 0 + (j 0).val; omega)).trans ?_
    clear * - hx
    rw [View.write_whole_univ, View.write_whole_univ, View.write_whole_univ, View.write_whole_univ]
    refine (vecAll_policy (k0_pay2 (tile_body.sl.v28 d L x t sx st hchk)) _ _ _ _ _ _ x t w3 b3 ?_ ?_ ?_ (j 0)).trans ?_
    · intro i
      rw [pay2_eq]
      unfold tile_body.sl.v28
      refine (row_read _ ((congrArg BitVec.toNat (word_eq (F := F) sx (tile_body.sl.dma0 d L x))).trans_lt hx) _ _ _ i).trans ?_
      rw [word_eq]
      rfl
    · intro i
      exact View.read_writes_cons_unit_of_mem (Val := Elt F) (v := (w3S).view) sw3 inb_S208_S192_0 (tile_body.sl.dma0_6 d L w3) [] (ix1 (i.castLE (by decide)) : S208.Idx)
        (ix1 i : S192.Idx) rfl (fun a => match a with | 0 => by show i.val = 0 + i.val; omega)
    · intro i
      exact View.read_writes_cons_unit_of_mem (Val := Elt F) (v := (b3S).view) sb3 inb_S16_S6_0 (tile_body.sl.dma0_7 d L b3) [] (ix1 (i.castLE (by decide)) : S16.Idx)
        (ix1 i : S6.Idx) rfl (fun a => match a with | 0 => by show i.val = 0 + i.val; omega)
    · exact congrArg (policy x t w1 b1 w2 b2 w3 b3) (ix1_eta j)
  sl_step
  isplitl [Hx Ht Hw1 Hb1 Hw2 Hb2 Hw3 Hb3 Ho']
  · isplitr [Ho']
    · isplitl [Hx]; · iexact Hx
      isplitl [Ht]; · iexact Ht
      isplitl [Hw1]; · iexact Hw1
      isplitl [Hb1]; · iexact Hb1
      isplitl [Hw2]; · iexact Hw2
      isplitl [Hb2]; · iexact Hb2
      isplitl [Hw3]; · iexact Hw3
      iexact Hb3
    iapply (Entails.of_eq (congrArg (fun f => ((oH).view.loc (thr d L) ↦{fullShare} f : sProp 𝕄)) hval)) $$ Ho'
  isplitl [Sx' St' Sw1' Sb1' Sw2' Sb2' Sw3' Sb3' So' Hbufs]
  · isplitr [Hbufs]
    · isplitl [Sx']; · iexists _; iexact Sx'
      isplitl [St']; · iexists _; iexact St'
      isplitl [Sw1']; · iexists _; iexact Sw1'
      isplitl [Sb1']; · iexists _; iexact Sb1'
      isplitl [Sw2']; · iexists _; iexact Sw2'
      isplitl [Sb2']; · iexists _; iexact Sb2'
      isplitl [Sw3']; · iexists _; iexact Sw3'
      isplitl [Sb3']; · iexists _; iexact Sb3'
      iexists _; iexact So'
    iexact Hbufs
  isplitl [Cx Ct Cw1 Cb1 Cw2 Cb2 Cw3 Cb3 Co Hsems]
  · isplitr [Hsems]
    · isplitl [Cx]; · iexact Cx
      isplitl [Ct]; · iexact Ct
      isplitl [Cw1]; · iexact Cw1
      isplitl [Cb1]; · iexact Cb1
      isplitl [Cw2]; · iexact Cw2
      isplitl [Cb2]; · iexact Cb2
      isplitl [Cw3]; · iexact Cw3
      isplitl [Cb3]; · iexact Cb3
      iexact Co
    iexact Hsems
  iexists _; isplitr
  swap; · iexact HO
  ipureintro; intro p hp
  iterate 9
    rcases Finset.mem_insert.mp hp with hp | hp
    · exact .inr (hp ▸ rfl)
  exact .inl hp

end Run

end Cert.Proof.Policy
-- ==== Proof.Launch.lean ====
/-
  The whole program's run: @main's two reshapes before the call, the call, in which the one tile turns the operands
  into the policy (Tile.lean), and the reshape of its result after it. Written once, at any float values: the frames of
  the kernel as printed and of the idealized one, and the value of the latter, are read off `run_main`.

  Between its parts @main holds its twelve arrays at a valuation: `V0` at launch, `V2` after the two reshapes, `V3`
  after the call, `V4` at the end.
-/
module

public import proofs.«01_k».proof.Proof.Tile
public import Idealize.ShloMosaic.Lib.ReduceAll
public import proofs.«01_k».proof.Proof.Gen.Pre_x_in_range

@[expose] public section

noncomputable section

namespace Cert.Proof.Policy

open Cert.KernelIdeal Cert.KernelIdeal.Gen

open Idealize.ShloMosaic
open Idealize.ShloMosaic.SparseCore (S V T)
open Idealize.ShloMosaic.SparseCore.Cfg (HIx Pay)
open Idealize.ShloMosaic.StableHlo (held held_congr held_sub_split wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## @main's arrays and operations -/

abbrev x' : DevRef τ sig := Proc.devRef .tc (main_arg0 : Ref sig .tc)
abbrev tab' : DevRef τ sig := Proc.devRef .tc (main_arg1 : Ref sig .tc)
abbrev w1' : DevRef τ sig := Proc.devRef .tc (main_arg2 : Ref sig .tc)
abbrev b1' : DevRef τ sig := Proc.devRef .tc (main_arg3 : Ref sig .tc)
abbrev w2' : DevRef τ sig := Proc.devRef .tc (main_arg4 : Ref sig .tc)
abbrev b2' : DevRef τ sig := Proc.devRef .tc (main_arg5 : Ref sig .tc)
abbrev w3' : DevRef τ sig := Proc.devRef .tc (main_arg6 : Ref sig .tc)
abbrev b3' : DevRef τ sig := Proc.devRef .tc (main_arg7 : Ref sig .tc)
abbrev t' : DevRef τ sig := Proc.devRef .tc (main_v0 : Ref sig .tc)
abbrev u' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opT : HloOp τ sig (Elt F) := StableHlo.reshape main_arg1 main_v0 (rfl : (.f32 : EltTy) = .f32) shapeCasts_S500x10_S5000
abbrev opU : HloOp τ sig (Elt F) := StableHlo.reshape main_arg6 main_v1 (rfl : (.f32 : EltTy) = .f32) shapeCasts_S32x6_S192
abbrev opR : HloOp τ sig (Elt F) := StableHlo.reshape main_v2 main_v3 (rfl : (.f32 : EltTy) = .f32) shapeCasts_S6_S1x6

/-- @main's twelve arrays. -/
abbrev SAll : Finset (DevRef τ sig) := {x', tab', w1', b1', w2', b2', w3', b3', t', u', o', r'}
/-- The call's nine: its result first, then its operands. -/
abbrev SCall : Finset (DevRef τ sig) := {o', x', t', w1', b1', w2', b2', u', b3'}

/-- The table's reshape touches @main's arrays only. -/
theorem hT : (opT (F := F)).bufs ⊆ SAll := show ({tab', t'} : Finset (DevRef τ sig)) ⊆ SAll by decide
/-- The last weights' reshape touches @main's arrays only. -/
theorem hU : (opU (F := F)).bufs ⊆ SAll := show ({w3', u'} : Finset (DevRef τ sig)) ⊆ SAll by decide
/-- The result's reshape touches @main's arrays only. -/
theorem hR : (opR (F := F)).bufs ⊆ SAll := show ({o', r'} : Finset (DevRef τ sig)) ⊆ SAll by decide
/-- The call's arrays are among @main's. -/
theorem call_sub : SCall ⊆ SAll := by decide

/-- The call's arrays, as the tile names them. -/
theorem held_call (d : Dev nD) (L : grid0.Coords) (W : Valuation τ sig (Elt F)) :
    (held (T d) SCall W : sProp 𝕄)
      = iprop(((oH).view.loc (thr d L) ↦{fullShare} W o') ∗ ins d L (W x') (W t') (W w1') (W b1') (W w2') (W b2') (W u') (W b3')) := by
  unfold held SCall
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

variable (m : (ℓ : Loc nD τ sig) → Buf (Elt F) ℓ) (ρ : Dev nD → PrngReg)

/-- @main's arrays at launch. -/
theorem unscoped_held (d : Dev nD) : (unscopedBufs d (fun b => m ((SparseCore.T d).loc b)) : sProp 𝕄) = held (T d) SAll fun b => m (d, b) := by
  unfold unscopedBufs held SAll
  rw [show (Finset.univ.filter fun b : Ref sig .tc => ¬ b.isScoped) = {main_arg0, main_arg1, main_arg2, main_arg3, main_arg4, main_arg5, main_arg6, main_arg7, main_v0, main_v1, main_v2, main_v3} by decide]
  repeat rw [SparseCore.bigSep_insert' (by decide)]
  rw [bigSep_singleton, bigSep_singleton]

variable [FloatOps F]

/-! ## The valuations -/

/-- What the tile leaves in the call's result: the policy of what the call's arrays hold. -/
def outOf (W : Valuation τ sig (Elt F)) : S6.Idx → F .f32 :=
  policy (W x' : S1.Idx → BitVec 32) (W t' : S5000.Idx → F .f32) (W w1' : S10x16.Idx → F .f32) (W b1' : S16.Idx → F .f32)
    (W w2' : S16x32.Idx → F .f32) (W b2' : S32.Idx → F .f32) (W u' : S192.Idx → F .f32) (W b3' : S6.Idx → F .f32)

/-- @main's arrays at launch. -/
def V0 (d : Dev nD) : Valuation τ sig (Elt F) := fun b => m (d, b)
/-- @main's arrays after the two reshapes before the call. -/
def V2 (d : Dev nD) : Valuation τ sig (Elt F) := (opU (F := F)).result ((opT (F := F)).result (V0 m d))
/-- @main's arrays after the call: its result holds the policy. -/
def V3 (d : Dev nD) : Valuation τ sig (Elt F) := Function.update (V2 m d) o' (outOf (V2 m d))
/-- @main's arrays at the end, after the result's reshape. -/
def V4 (d : Dev nD) : Valuation τ sig (Elt F) := (opR (F := F)).result (V3 m d)

/-- The first two reshapes change only the arrays they write. -/
theorem V2_of_ne (d : Dev nD) (b : DevRef τ sig) (ht : b ≠ t') (hu : b ≠ u') : V2 m d b = m (d, b) := by
  unfold V2
  rw [(opU (F := F)).result_of_not_mem _ (show b ∉ ({u'} : Finset (DevRef τ sig)) by simpa using hu),
    (opT (F := F)).result_of_not_mem _ (show b ∉ ({t'} : Finset (DevRef τ sig)) by simpa using ht)]
  rfl

/-- What @main leaves alone ends at its launch contents. -/
theorem V4_of_ne (d : Dev nD) (b : DevRef τ sig) (ht : b ≠ t') (hu : b ≠ u') (ho : b ≠ o') (hr : b ≠ r') : V4 m d b = m (d, b) := by
  unfold V4
  rw [(opR (F := F)).result_of_not_mem _ (show b ∉ ({r'} : Finset (DevRef τ sig)) by simpa using hr)]
  unfold V3
  rw [Function.update_of_ne ho, V2_of_ne m d b ht hu]

/-! ## What the handshakes carry -/

/-- The call takes its nine arrays as the reshapes left them and brings them back with the policy in its result; the
    one tile is handed the same and hands back the same. -/
def P : (K (F := F)).Pay (nD := nD) (Val := Elt F) (Name := ℕ) (U := UU) where
  st := fun q d _ => match q with | 0 => held (T d) SCall (V2 m d)
  dn := fun q d _ => match q with | 0 => held (T d) SCall (V3 m d)
  go := fun q d _ _ => match q with | 0 => held (T d) SCall (V2 m d)
  td := fun q d _ _ => match q with | 0 => held (T d) SCall (V3 m d)
  x := fun _ _ => iprop(emp)

/-- The call's arrays can be kept in an invariant. -/
theorem held_storable (d : Dev nD) (W : Valuation τ sig (Elt F)) : BI.Storable (upEmb : UEmb _ 𝕄) (held (T d) SCall W) := by
  unfold held; infer_instance

/-- All that the launch and its end hand over can be kept in an invariant. -/
instance P_storable : (P (F := F) m).IsStorable where
  st q d _ := match q with | 0 => held_storable d _
  dn q d _ := match q with | 0 => held_storable d _
  go q d _ _ := match q with | 0 => held_storable d _
  td q d _ _ := match q with | 0 => held_storable d _

/-- What the proof asks of the launch memory: the state is one of the table's 500 rows. -/
def PreOK : Prop := ∀ d : Dev nD, BitVec.toNat ((m ((SparseCore.T d).loc main_arg0) : S1.Idx → BitVec 32) (ix1 0)) < 500

/-! ## The tile's obligation -/

section Tile

variable (d : Dev nD) (L : grid0.Coords)

omit [FloatOps F] in
/-- The two parts of the third resource change places. -/
theorem swap_in {A B C D R : sProp 𝕄} : iprop(A ∗ B ∗ (C ∗ D) ∗ R) ⊢ iprop(A ∗ B ∗ (D ∗ C) ∗ R) := by
  iintro ⟨HA, HB, ⟨HC, HD⟩, HR⟩
  isplitl [HA]; · iexact HA
  isplitl [HB]; · iexact HB
  isplitl [HC HD]
  · isplitl [HD] <;> iassumption
  iexact HR

omit [FloatOps F] in
/-- The two parts of the first resource change places. -/
theorem swap_out {C D R : sProp 𝕄} : iprop((D ∗ C) ∗ R) ⊢ iprop((C ∗ D) ∗ R) := by
  iintro ⟨⟨HD, HC⟩, HR⟩
  isplitl [HC HD]
  · isplitl [HC] <;> iassumption
  iexact HR

/-- The tile's run (`tile_body`) over the call's nine arrays held at a valuation. -/
theorem tile_held (hF : (K (F := F)).Facts) (W₀ : Valuation τ sig (Elt F)) (hx : BitVec.toNat ((W₀ x' : S1.Idx → BitVec 32) (ix1 0)) < 500)
    (O : CellTallies nD τ sig (HIx 1)) (W : Waits sig (HIx 1)) (hO : ∀ g, O g none = 0) :
    (iprop(levAts (K (F := F)).L (K (F := F)).lev ∗ emp ∗ held (T d) SCall W₀ ∗ scopedBufs (thr d L) ∗ scopedSems0 (thr d L) ∗ owes (thr d L) O W) : sProp 𝕄)
      ⊢ wp frame (wpE (defs₀ (F := F)) 𝒱₀ (thr d L) none) Set.univ (body L)
          fun _ => iprop(held (T d) SCall (Function.update W₀ o' (outOf W₀)) ∗ scopedBufs (thr d L) ∗ scopedSems0 (thr d L)
            ∗ ∃ W', ⌜∀ p ∈ W', p ∈ W ∨ p.2 = none⌝ ∗ owes (thr d L) O W') := by
  have upd : (held (T d) SCall (Function.update W₀ o' (outOf W₀)) : sProp 𝕄)
      = iprop(((oH).view.loc (thr d L) ↦{fullShare} (outOf W₀ : Buf (Elt F) ((oH).view.loc (thr d L))))
        ∗ ins d L (W₀ x') (W₀ t') (W₀ w1') (W₀ b1') (W₀ w2') (W₀ b2') (W₀ u') (W₀ b3')) := by
    rw [held_call d L, Function.update_self, Function.update_of_ne (show x' ≠ o' by decide), Function.update_of_ne (show t' ≠ o' by decide),
      Function.update_of_ne (show w1' ≠ o' by decide), Function.update_of_ne (show b1' ≠ o' by decide), Function.update_of_ne (show w2' ≠ o' by decide),
      Function.update_of_ne (show b2' ≠ o' by decide), Function.update_of_ne (show u' ≠ o' by decide), Function.update_of_ne (show b3' ≠ o' by decide)]
  rw [upd, held_call d L]
  exact swap_in.trans ((tile_body d L (W₀ x') (W₀ t') (W₀ w1') (W₀ b1') (W₀ w2') (W₀ b2') (W₀ u') (W₀ b3') (W₀ o') hF hx O W hO).trans
    (wp_mono frame _ _ fun _ => swap_out))

end Tile

/-- A tile's coordinates, from its SparseCore's number and its own. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the printed body at its coordinates. -/
theorem defs₀_vector (c : Fin τ.nSC) (s : Fin τ.nSub) :
    defs₀ (F := F) (.scVector c s) 0 () = SparseCore.onTile hcore0 hsub0 (fun c s => body (coordsV c s)) ⟨⟩ c s := rfl

omit [FloatOps F] in
/-- The tile's last resources in the order that the launch takes them back. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation: handed the call's arrays, it leaves the policy in the call's result. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  have hx : BitVec.toNat ((V2 m d x' : S1.Idx → BitVec 32) (ix1 0)) < 500 := by
    rw [V2_of_ne m d x' (by decide) (by decide)]; exact hpre d
  exact (tile_held d (coordsV ⟨_, hci.1⟩ ⟨_, hci.2⟩) hF (V2 m d) hx O W hO).trans (wp_mono frame _ _ fun _ => obl_post)

/-- One tile: the call's arrays are the tile's. -/
theorem vecSplit : (K (F := F)).VecSplit' (P m) 0 := by
  intro d c
  show held (T d) SCall (V2 m d) ⊢ |={Set.univ}=> iprop(
      (bigSep Finset.univ fun _ : Fin ((K (F := F)).nSub 0) => held (T d) SCall (V2 m d))
      ∗ ((bigSep Finset.univ fun _ : Fin ((K (F := F)).nSub 0) => held (T d) SCall (V3 m d)) -∗ held (T d) SCall (V3 m d)))
  rw [show (bigSep Finset.univ fun _ : Fin ((K (F := F)).nSub 0) => (held (T d) SCall (V2 m d) : sProp 𝕄)) = held (T d) SCall (V2 m d) from
      bigSep_univ_of_subsingleton (0 : Fin 1),
    show (bigSep Finset.univ fun _ : Fin ((K (F := F)).nSub 0) => (held (T d) SCall (V3 m d) : sProp 𝕄)) = held (T d) SCall (V3 m d) from
      bigSep_univ_of_subsingleton (0 : Fin 1)]
  iintro H; imodintro
  isplitl [H]; · iexact H
  iintro H; iexact H

/-! ## The launch element of the certificate's ghost state -/

/-- The ghost state at launch: the handshakes' counters and nothing of the tile's. -/
def u₀ : UU := (initOf (K (F := F)).hsCells (K (F := F)).hsToks, 1)

omit [FloatOps F] in
/-- Nothing, taken once for each element, is nothing. -/
theorem bigSep_emp' {I : Type} (s : Finset I) : (bigSep s fun _ => iprop(emp)) = (iprop(emp) : sProp 𝕄) := bigSep_emp_const s

/-- The ghost state at launch gives the handshakes theirs, and @main and the threads nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the call is handed: its arrays before it. -/
theorem st0_eq (d : Dev nD) : (bigSep Finset.univ fun c : Fin ((K (F := F)).nCore 0) => (P m).st 0 d c) = (held (T d) SCall (V2 m d) : sProp 𝕄) :=
  bigSep_univ_of_subsingleton (0 : Fin 1)
/-- What the call hands back: its arrays after it. -/
theorem dn0_eq (d : Dev nD) : (bigSep Finset.univ fun c : Fin ((K (F := F)).nCore 0) => (P m).dn 0 d c) = (held (T d) SCall (V3 m d) : sProp 𝕄) :=
  bigSep_univ_of_subsingleton (0 : Fin 1)

/-- The call changes none of the arrays that it isn't handed. -/
theorem held_rest (d : Dev nD) : (held (T d) (SAll \ SCall) (V2 m d) : sProp 𝕄) = held (T d) (SAll \ SCall) (V3 m d) :=
  held_congr (T d) fun b hb => by
    have hne : b ≠ o' := by
      rintro rfl
      exact (Finset.mem_sdiff.mp hb).2 (by decide)
    unfold V3
    rw [Function.update_of_ne hne]

/-- What @main leaves: its twelve arrays at `V4`. -/
abbrev FIN (d : Dev nD) : sProp 𝕄 := held (T d) SAll (V4 m d)

/-- @main on device `d`'s TensorCore: two reshapes, the call from the nine arrays and back, one reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := SAll) hT (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opU) (S := SAll) hU (V := (opT (F := F)).result (V0 m d))) $$ [Hb Hheld]
  · isplitl [Hb] <;> iassumption
  iintro ⟨Hb, Hheld⟩
  rw [wp_ret]; imodintro
  ihave Hh := (Entails.of_eq (show (held (T d) SAll ((opU (F := F)).result ((opT (F := F)).result (V0 m d))) : sProp 𝕄)
    = iprop(held (T d) SCall (V2 m d) ∗ held (T d) (SAll \ SCall) (V2 m d)) from held_sub_split (c := T d) call_sub (V2 m d))) $$ Hheld
  icases Hh with ⟨Hcall, Hrest⟩
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  ihave Hrest' := (Entails.of_eq (held_rest m d)) $$ Hrest
  iapply (wp_hlo_within 𝒱 (SparseCore.T d) none Set.univ (op := opR) (S := SAll) hR (V := V3 m d)) $$ [Hb Hdn' Hrest']
  · isplitl [Hb]; · iexact Hb
    rw [held_sub_split (c := T d) call_sub (V3 (F := F) m d)]
    isplitl [Hdn'] <;> iassumption
  iintro ⟨Hb, Hheld⟩
  rw [wp_ret]; imodintro; imodintro
  isplitl [Hst]; · iexact Hst
  isplitr [Hb Hts]; · iexact Hheld
  isplitl [Hb] <;> iassumption

/-! ## The final state -/

omit [FloatOps F] in
/-- Whole arrays held at a valuation beside the physical state: the memory holds the valuation's contents. -/
theorem held_agree (d : Dev nD) (s' : Phys nD τ sig (Elt F)) (W : Valuation τ sig (Elt F)) (Z : Finset (DevRef τ sig)) :
    iprop(held (T d) Z W ∗ SI s') ⊢ (⌜∀ b ∈ Z, s'.mem.mem (d, b) = W b⌝ : sProp 𝕄) := by
  induction Z using Finset.induction_on with
  | empty => iintro -; ipureintro; intro b hb; exact absurd hb (Finset.notMem_empty b)
  | insert a Z ha ih =>
    rw [show (held (T d) (insert a Z) W : sProp 𝕄) = iprop((((d, a) : Loc nD τ sig) ↦{fullShare} W a) ∗ held (T d) Z W) from SparseCore.bigSep_insert' ha]
    iintro ⟨⟨Ha, HZ⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h1, HSI, -⟩
    ihave H := ih $$ [HZ HSI]
    · isplitl [HZ] <;> iassumption
    icases H with %h2
    ipureintro
    intro b hb
    rcases Finset.mem_insert.mp hb with rfl | hb
    · exact funext fun i => h1 i (Finset.mem_univ i)
    · exact h2 b hb

/-- A final memory that holds @main's arrays at `V4` on one device. -/
def fq (d : Dev nD) (s' : Phys nD τ sig (Elt F)) : Prop := ∀ b ∈ SAll, s'.mem.mem (d, b) = V4 m d b

/-- What @main leaves says what the final memory holds. -/
theorem hfin (d : Dev nD) (s' : Phys nD τ sig (Elt F)) : iprop(FIN m d ∗ SI s') ⊢ (⌜fq m d s'⌝ : sProp 𝕄) := held_agree d s' (V4 m d) SAll

/-! ## The program's run -/

/-- The program's end: on every device @main's arrays at `V4`, and every semaphore at zero. -/
def QC : PUnit × MemSt nD τ sig (Elt F) → Prop := fun r => (∀ c : Dev nD, ∀ b ∈ SAll, r.2.mem (c, b) = V4 m c b) ∧ r.2.sem = fun _ => 0

/-- From any memory whose state is below 500 and any float values, the program runs to that end. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- A state that is all ones under the precondition, `jnp.all((0 <= x) & (x < 500))`: non-negative as a signed word, it
    is its own value, below 500. -/
theorem lt_of_pre (a0 : S1.Idx → BitVec 32) (a1 : S500x10.Idx → F .f32) (a2 : S10x16.Idx → F .f32) (a3 : S16.Idx → F .f32) (a4 : S16x32.Idx → F .f32)
    (a5 : S32.Idx → F .f32) (a6 : S32x6.Idx → F .f32) (a7 : S6.Idx → F .f32)
    (h : Cert.Pre_x_in_range.fn (F := F) a0 a1 a2 a3 a4 a5 a6 a7 = fun _ => 1#1) : BitVec.toNat (a0 (ix1 0)) < 500 := by
  have key : ∀ v : BitVec 32, IntOp.andi (IntOp.cmpi .sge v 0#32) (IntOp.cmpi .slt v 500#32) = 1#1 → v.toNat < 500 := by
    intro v e
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a : Fin 0 => a.elim0)
  dsimp only [Cert.Pre_x_in_range.fn] at e
  haveI : Subsingleton Cert.Pre_x_in_range.S_.Idx := ⟨fun a b => funext fun k => k.elim0⟩
  have e1 := Host.reduce_andi_all _ _ _ _ _ e (ix1 0)
  simp only [andi, cmpi, broadcastInDim, constantI] at e1
  exact key _ e1

end Cert.Proof.Policy

end
-- ==== Proof.Reference.lean ====
module

public import proofs.«01_k».proof.Proof.Spec
public import proofs.«01_k».proof.Proof.Gen.ReferenceIdeal.Run
public import Idealize.ShloMosaic.Lib.IdealHost
public import Idealize.ShloMosaic.Lib.Pointwise
public import Idealize.ShloMosaic.Lib.ReduceAll
public import Idealize.ShloMosaic.Lib.Routing.Ops

@[expose] public section

noncomputable section

/-! # What the reference computes, element by element

The reference's term cut into its stages, each read at an index over the extended reals: the row that the lookup takes,
the two hidden layers, the logits, and the softmax, each equal to the stage of the network that the kernel computes
(Spec.lean). The sums are the same sums with the bias added last instead of first. -/

namespace Cert.Proof.Policy

open Cert.ReferenceIdeal Cert.ReferenceIdeal.Gen
open Idealize.ShloMosaic Idealize.ShloMosaic.TcCoe Idealize.SL.Sem

/-! ## The stages -/

variable (x : S1.Idx → BitVec 32) (tab : S500x10.Idx → Ideal .f32) (w1 : S10x16.Idx → Ideal .f32) (b1 : S16.Idx → Ideal .f32)
  (w2 : S16x32.Idx → Ideal .f32) (b2 : S32.Idx → Ideal .f32) (w3 : S32x6.Idx → Ideal .f32) (b3 : S6.Idx → Ideal .f32)

/-- The row number: the state, a negative one counted from the table's end. -/
def refIdx : IVec S1x1 32 :=
  broadcastInDim S1x1 ![0] bcast_S1_S1x1_0 (select (cmpi .slt x (broadcastInDim S1 ![] bcast_S_S1 (constantI S_ 32 0#32))) (addi x (broadcastInDim S1 ![] bcast_S_S1 (constantI S_ 32 500#32))) x)

/-- Whether the row number is a row of the table. -/
def refOk : IVec S1 1 :=
  Host.reduce IntOp.andi (andi (cmpi .sge (refIdx x) (broadcastInDim S1x1 ![] bcast_S_S1x1 (constantI S_ 32 0#32))) (cmpi .sle (refIdx x) (broadcastInDim S1x1 ![1] bcast_S1_S1x1_1 (constantI S1 32 499#32)))) (constantI S_ 1 1#1) reducesTo_S1x1_S1_d1 h_S_

/-- The row looked up. -/
def refRow : FVec Ideal S1x10 .f32 :=
  select (broadcastInDim S1x10 ![0] bcast_S1_S1x10_0 (refOk x)) (Host.gather gather_S500x10_S1x1_S1x10_1_0_n_n_0_1_110 tab (refIdx x)) (broadcastInDim S1x10 ![] bcast_S_S1x10 (constant S_ .f32 0x7FC00000#32))

/-- The first hidden layer. -/
def refH1 (e : FVec Ideal S1x10 .f32) : FVec Ideal S1x16 .f32 :=
  maximumf (addf (Host.dotGeneral (φ₁ := .f32) (φ₂ := .f32) dot_S1x10_S10x16_S1x16_1_0_0_1_n_n none e w1) (broadcastInDim S1x16 ![1] bcast_S16_S1x16_1 b1)) (broadcastInDim S1x16 ![] bcast_S_S1x16 (constant S_ .f32 0x00000000#32))

/-- The second hidden layer. -/
def refH2 (h : FVec Ideal S1x16 .f32) : FVec Ideal S1x32 .f32 :=
  maximumf (addf (Host.dotGeneral (φ₁ := .f32) (φ₂ := .f32) dot_S1x16_S16x32_S1x32_1_0_0_1_n_n none h w2) (broadcastInDim S1x32 ![1] bcast_S32_S1x32_1 b2)) (broadcastInDim S1x32 ![] bcast_S_S1x32 (constant S_ .f32 0x00000000#32))

/-- The logits. -/
def refL (h : FVec Ideal S1x32 .f32) : FVec Ideal S1x6 .f32 :=
  addf (Host.dotGeneral (φ₁ := .f32) (φ₂ := .f32) dot_S1x32_S32x6_S1x6_1_0_0_1_n_n none h w3) (broadcastInDim S1x6 ![1] bcast_S6_S1x6_1 b3)

/-- The exponentials of the logits less the largest. -/
def refE (l : FVec Ideal S1x6 .f32) : FVec Ideal S1x6 .f32 :=
  Host.exp (subf l (broadcastInDim S1x6 ![0, 1] bcast_S1x1_S1x6_0_1 (broadcastInDim S1x1 ![0] bcast_S1_S1x1_0 (maximumf (broadcastInDim S1 ![] bcast_S_S1 (constant S_ .f32 0xFF800000#32)) (Host.reduce FloatOps.maximumf l (constant S_ .f32 0xFF800000#32) reducesTo_S1x6_S1_d1 h_S_)))))

/-- The softmax of the exponentials. -/
def refS (e : FVec Ideal S1x6 .f32) : FVec Ideal S1x6 .f32 :=
  Host.divf e (broadcastInDim S1x6 ![0, 1] bcast_S1x1_S1x6_0_1 (broadcastInDim S1x1 ![0] bcast_S1_S1x1_0 (Host.reduceAdd e (constant S_ .f32 0x00000000#32) reducesTo_S1x6_S1_d1 h_S_)))

/-- The reference's term is its stages in turn. -/
theorem res_eq (m : (ℓ : Loc nD τ sig) → Buf (Elt Ideal) ℓ) (c : Dev nD) :
    Cert.ReferenceIdeal.Value.res_main_v22 m c
      = refS (refE (refL (m ((c.tc : Thread nD τ).loc main_arg6)) (m ((c.tc : Thread nD τ).loc main_arg7))
          (refH2 (m ((c.tc : Thread nD τ).loc main_arg4)) (m ((c.tc : Thread nD τ).loc main_arg5))
            (refH1 (m ((c.tc : Thread nD τ).loc main_arg2)) (m ((c.tc : Thread nD τ).loc main_arg3))
              (refRow (m ((c.tc : Thread nD τ).loc main_arg0)) (m ((c.tc : Thread nD τ).loc main_arg1))))))) := by
  unfold Cert.ReferenceIdeal.Value.res_main_v22 refS refE refL refH2 refH1 refRow refOk refIdx
  rfl

/-! ## Each stage at an index -/

/-- The sum from the bias on is the bias added to the sum. -/
theorem dotAcc_ideal : ∀ (n : ℕ) (h w : Fin n → Ideal .f32) (b : Ideal .f32),
    (dotAcc n h w b : EReal) = (∑ k : Fin n, (h k : EReal) * w k) + b
  | 0, _, _, b => by
    show (b : EReal) = _
    rw [Fin.sum_univ_zero, zero_add]
  | n + 1, h, w, b => by
    show (dotAcc n (fun k => h k.castSucc) (fun k => w k.castSucc) b : EReal) + (h (Fin.last n) : EReal) * w (Fin.last n) = _
    rw [dotAcc_ideal n, Fin.sum_univ_castSucc]
    exact add_right_comm _ _ _

/-- The first hidden layer at an index. -/
theorem refH1_apply (e : FVec Ideal S1x10 .f32) (j : Fin 16) :
    refH1 w1 b1 e (ix2 0 j) = hidden1 (fun i => e (ix2 0 i)) w1 b1 j := by
  unfold hidden1 refH1
  rw [dotAcc_ideal]
  pointwise

/-- The second hidden layer at an index. -/
theorem refH2_apply (h : FVec Ideal S1x16 .f32) (j : Fin 32) :
    refH2 w2 b2 h (ix2 0 j) = hidden2 (fun i => h (ix2 0 i)) w2 b2 j := by
  unfold hidden2 refH2
  rw [dotAcc_ideal]
  pointwise

/-- The logits at an index; `w` is the weights laid out flat, six to a row. -/
theorem refL_apply (h : FVec Ideal S1x32 .f32) (w : Cert.KernelIdeal.S192.Idx → Ideal .f32)
    (hw : ∀ (k : Fin 32) (j : Fin 6), w (ix1 (⟨6 * k.val + j.val, by omega⟩ : Fin 192)) = w3 (ix2 k j)) (j : Fin 6) :
    refL w3 b3 h (ix2 0 j) = logit (fun i => h (ix2 0 i)) w b3 j := by
  unfold logit refL
  rw [dotAcc_ideal]
  simp only [hw]
  pointwise

/-- The exponentials at an index: the largest logit, started from -∞, is the largest of the six. -/
theorem refE_apply (l : FVec Ideal S1x6 .f32) (j : Fin 6) : refE l (ix2 0 j) = expo (fun i => l (ix2 0 i)) j := by
  unfold expo refE max6
  pointwise
  have hb : Ideal.ofBits FTy.f32 4286578688#32 = (⊥ : EReal) := by simp [Ideal.ofBits, Ideal.ieee]
  rw [hb]
  have hu : (Finset.univ : Finset (Fin 6)) = {0, 1, 2, 3, 4, 5} := by decide
  rw [hu]
  simp [max_assoc, max_comm, max_left_comm]

/-- The softmax at an index: the sum, started from zero, is the sum of the six. -/
theorem refS_apply (e : FVec Ideal S1x6 .f32) (j : Fin 6) : refS e (ix2 0 j) = FloatOps.divf (e (ix2 0 j)) (sum6 fun i => e (ix2 0 i)) := by
  unfold sum6 refS
  pointwise
  rw [Fin.sum_univ_six]

/-- A state below 500 is its own row number. -/
theorem refIdx_apply (hx : (x (ix1 0)).toNat < 500) (i : S1x1.Idx) : refIdx x i = x (ix1 0) := by
  obtain rfl : i = ix2 0 0 := funext fun k => match k with
    | ⟨0, _⟩ => Subsingleton.elim (α := Fin 1) _ _
    | ⟨1, _⟩ => Subsingleton.elim (α := Fin 1) _ _
  unfold refIdx
  pointwise
  have h : IntOp.cmpi CmpIPredicate.slt (x (ix1 0)) 0#32 = 0#1 := by
    generalize x (ix1 0) = y at hx
    have : ¬ y.toInt < 0 := by rw [BitVec.toInt_eq_toNat_of_lt (by omega)]; omega
    simp [IntOp.cmpi, BitVec.slt, this]
  rw [h]
  rfl

/-- A state below 500 is a row of the table. -/
theorem refOk_apply (hx : (x (ix1 0)).toNat < 500) (i : S1.Idx) : refOk x i = 1#1 := by
  unfold refOk
  refine Host.reduce_andi_one _ _ _ _ _ rfl fun i => ?_
  have hi := refIdx_apply x hx i
  show IntOp.andi (IntOp.cmpi .sge (refIdx x i) 0#32) (IntOp.cmpi .sle (refIdx x i) 499#32) = 1#1
  rw [hi]
  generalize x (ix1 0) = y at hx
  have e : y.toInt = y.toNat := BitVec.toInt_eq_toNat_of_lt (by omega)
  have h0 : (0 : Int) ≤ y.toInt := by omega
  have h1 : y.toInt ≤ 499 := by omega
  simp [IntOp.cmpi, BitVec.sle, h0, h1, IntOp.andi]

/-- The row looked up at a state below 500 is the table's row of that number. -/
theorem refRow_apply (hx : (x (ix1 0)).toNat < 500) (j : Fin 10) : refRow x tab (ix2 0 j) = tab (ix2 ⟨(x (ix1 0)).toNat, hx⟩ j) := by
  unfold refRow
  have hg := Routing.gather_row gather_S500x10_S1x1_S1x10_1_0_n_n_0_1_110 rfl rfl rfl rfl rfl tab (refIdx x) 0 j ⟨(x (ix1 0)).toNat, hx⟩
    ((refIdx_apply x hx _).trans (BitVec.eq_of_toNat_eq (by simp))) (by norm_num)
  show Scalar.select (refOk x _) (Host.gather gather_S500x10_S1x1_S1x10_1_0_n_n_0_1_110 tab (refIdx x) (ix2 0 j)) _ = _
  rw [refOk_apply x hx]
  exact hg

/-! ## The whole network -/

/-- The reference's result, at a state below 500 and with the table and the last weights laid out flat, is the policy. -/
theorem ref_policy (hx : (x (ix1 0)).toNat < 500) (t : Cert.KernelIdeal.S5000.Idx → Ideal .f32) (w : Cert.KernelIdeal.S192.Idx → Ideal .f32)
    (ht : ∀ (r : Fin 500) (i : Fin 10), t (ix1 (⟨10 * r.val + i.val, by omega⟩ : Fin 5000)) = tab (ix2 r i))
    (hw : ∀ (k : Fin 32) (j : Fin 6), w (ix1 (⟨6 * k.val + j.val, by omega⟩ : Fin 192)) = w3 (ix2 k j)) (j : Fin 6) :
    refS (refE (refL w3 b3 (refH2 w2 b2 (refH1 w1 b1 (refRow x tab))))) (ix2 0 j) = policy x t w1 b1 w2 b2 w b3 (ix1 j) := by
  have hr : (fun i : Fin 10 => refRow x tab (ix2 0 i)) = row x t := funext fun i => by
    rw [refRow_apply x tab hx, ← ht]
    refine congrArg (fun k => t (ix1 k)) (Fin.ext ?_)
    show 10 * (x (ix1 0)).toNat + i.val = (10 * (x (ix1 0)).toNat + i.val) % 5000
    omega
  have h1 : (fun i : Fin 16 => refH1 w1 b1 (refRow x tab) (ix2 0 i)) = hidden1 (row x t) w1 b1 := funext fun i => by
    rw [refH1_apply, hr]
  have h2 : (fun i : Fin 32 => refH2 w2 b2 (refH1 w1 b1 (refRow x tab)) (ix2 0 i)) = hidden2 (hidden1 (row x t) w1 b1) w2 b2 :=
    funext fun i => by rw [refH2_apply, h1]
  have hl : (fun i : Fin 6 => refL w3 b3 (refH2 w2 b2 (refH1 w1 b1 (refRow x tab))) (ix2 0 i))
      = logit (hidden2 (hidden1 (row x t) w1 b1) w2 b2) w b3 := funext fun i => by rw [refL_apply w3 b3 _ w hw, h2]
  have he : ∀ i : Fin 6, refE (refL w3 b3 (refH2 w2 b2 (refH1 w1 b1 (refRow x tab)))) (ix2 0 i)
      = expo (logit (hidden2 (hidden1 (row x t) w1 b1) w2 b2) w b3) i := fun i => by rw [refE_apply, hl]
  rw [refS_apply, he, funext he]
  rfl

end Cert.Proof.Policy

end
-- ==== Proof.Value.lean ====
module

public import proofs.«01_k».proof.Proof.Launch
public import proofs.«01_k».proof.Proof.Reference
public import Idealize.ShloMosaic.Lib.Pipeline.Value

@[expose] public section

noncomputable section

/-! # The kernel's result and the reference's, compared

@main's reshapes lay the table and the last weights out flat before the call and give the six probabilities a row after
it. At the arrays these leave, the policy is what the reference computes of the arguments. -/

namespace Cert.Proof.Policy

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (d : Dev nD)

/-- The flat table is the table, row by row. -/
theorem V2_table : V2 m d t' = shapeCast S5000 (m (d, tab') : S500x10.Idx → F .f32) shapeCasts_S500x10_S5000 := by
  unfold V2
  rw [(opU (F := F)).result_of_not_mem _ (show t' ∉ ({u'} : Finset (DevRef τ sig)) by decide)]
  exact StableHlo.reshape_result main_arg1 main_v0 rfl shapeCasts_S500x10_S5000 _ _ (V0 m d)

/-- The flat weights are the weights, row by row. -/
theorem V2_weights : V2 m d u' = shapeCast S192 (m (d, w3') : S32x6.Idx → F .f32) shapeCasts_S32x6_S192 := by
  unfold V2
  have h := StableHlo.reshape_result (Val := Elt F) main_arg6 main_v1 rfl shapeCasts_S32x6_S192 (by decide) (by decide) ((opT (F := F)).result (V0 m d))
  refine h.trans ?_
  show shapeCast S192 (((opT (F := F)).result (V0 m d)) w3' : S32x6.Idx → F .f32) shapeCasts_S32x6_S192 = _
  rw [(opT (F := F)).result_of_not_mem _ (show w3' ∉ ({t'} : Finset (DevRef τ sig)) by decide)]
  rfl

/-- The program's result is the call's result as one row. -/
theorem V4_result : V4 m d r' = shapeCast S1x6 (outOf (V2 m d)) shapeCasts_S6_S1x6 := by
  unfold V4
  have h := StableHlo.reshape_result (Val := Elt F) main_v2 main_v3 rfl shapeCasts_S6_S1x6 (by decide) (by decide) (V3 m d)
  refine h.trans ?_
  show shapeCast S1x6 (V3 m d o' : S6.Idx → F .f32) shapeCasts_S6_S1x6 = _
  unfold V3
  rw [Function.update_self]

/-- The flat table at an index. -/
theorem table_flat (v : S500x10.Idx → F .f32) (r : Fin 500) (i : Fin 10) :
    shapeCast S5000 v shapeCasts_S500x10_S5000 (ix1 (⟨10 * r.val + i.val, by omega⟩ : Fin 5000)) = v (ix2 r i) := by
  pointwise

/-- The flat weights at an index. -/
theorem weights_flat (v : S32x6.Idx → F .f32) (k : Fin 32) (j : Fin 6) :
    shapeCast S192 v shapeCasts_S32x6_S192 (ix1 (⟨6 * k.val + j.val, by omega⟩ : Fin 192)) = v (ix2 k j) := by
  pointwise

/-- The row of six at an index. -/
theorem row_of_six (v : S6.Idx → F .f32) (j : Fin 6) : shapeCast S1x6 v shapeCasts_S6_S1x6 (ix2 0 j) = v (ix1 j) := by
  pointwise

/-- The kernel's result, over the extended reals and at states below 500, is what the reference computes of the arguments. -/
theorem result_eq (m : (ℓ : Loc nD τ sig) → Buf (Elt Ideal) ℓ) (hpre : PreOK m) (d : Dev nD) :
    (V4 m d r' : S1x6.Idx → Ideal .f32)
      = refS (refE (refL (m (d, w3')) (m (d, b3')) (refH2 (m (d, w2')) (m (d, b2')) (refH1 (m (d, w1')) (m (d, b1')) (refRow (m (d, x')) (m (d, tab'))))))) := by
  have hj (j : Fin 6) : shapeCast S1x6 (outOf (V2 m d)) shapeCasts_S6_S1x6 (ix2 0 j)
      = refS (refE (refL (m (d, w3')) (m (d, b3')) (refH2 (m (d, w2')) (m (d, b2')) (refH1 (m (d, w1')) (m (d, b1')) (refRow (m (d, x')) (m (d, tab'))))))) (ix2 0 j) := by
    refine (row_of_six (outOf (V2 m d)) j).trans ?_
    refine Eq.trans ?_ (ref_policy (m (d, x')) (m (d, tab')) (m (d, w1')) (m (d, b1')) (m (d, w2')) (m (d, b2')) (m (d, w3')) (m (d, b3')) (hpre d)
      (shapeCast S5000 (m (d, tab') : S500x10.Idx → Ideal .f32) shapeCasts_S500x10_S5000)
      (shapeCast S192 (m (d, w3') : S32x6.Idx → Ideal .f32) shapeCasts_S32x6_S192) (table_flat (F := Ideal) (m (d, tab'))) (weights_flat (F := Ideal) (m (d, w3'))) j).symm
    unfold outOf
    rw [V2_table, V2_weights, V2_of_ne m d x' (by decide) (by decide), V2_of_ne m d w1' (by decide) (by decide), V2_of_ne m d b1' (by decide) (by decide),
      V2_of_ne m d w2' (by decide) (by decide), V2_of_ne m d b2' (by decide) (by decide), V2_of_ne m d b3' (by decide) (by decide)]
  rw [V4_result]
  refine funext fun (i : S1x6.Idx) => ?_
  have hi : i = (ix2 0 (i 1 : Fin 6) : S1x6.Idx) := funext fun k => match k with
    | ⟨0, _⟩ => Subsingleton.elim (α := Fin 1) _ _
    | ⟨1, _⟩ => rfl
  rw [hi]
  exact hj _

end Cert.Proof.Policy

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_x_in_range
public import proofs.«01_k».proof.Proof.Value
public import Idealize.ShloMosaic.Lib.Quiescent

@[expose] public section

noncomputable section

namespace Cert.Proof

open Idealize.ShloMosaic Idealize.SL.Sem Cert.Proof.Policy

/-- At the kernel's end its eight arguments are as at its start. -/
theorem args_unchanged {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r) (c : Dev Cert.KernelIdeal.nD) :
    r.2.mem (c, x') = m (c, x') ∧ r.2.mem (c, tab') = m (c, tab') ∧ r.2.mem (c, w1') = m (c, w1') ∧ r.2.mem (c, b1') = m (c, b1')
      ∧ r.2.mem (c, w2') = m (c, w2') ∧ r.2.mem (c, b2') = m (c, b2') ∧ r.2.mem (c, w3') = m (c, w3') ∧ r.2.mem (c, b3') = m (c, b3') :=
  ⟨(h.1 c x' (by decide)).trans (V4_of_ne m c x' (by decide) (by decide) (by decide) (by decide)),
    (h.1 c tab' (by decide)).trans (V4_of_ne m c tab' (by decide) (by decide) (by decide) (by decide)),
    (h.1 c w1' (by decide)).trans (V4_of_ne m c w1' (by decide) (by decide) (by decide) (by decide)),
    (h.1 c b1' (by decide)).trans (V4_of_ne m c b1' (by decide) (by decide) (by decide) (by decide)),
    (h.1 c w2' (by decide)).trans (V4_of_ne m c w2' (by decide) (by decide) (by decide) (by decide)),
    (h.1 c b2' (by decide)).trans (V4_of_ne m c b2' (by decide) (by decide) (by decide) (by decide)),
    (h.1 c w3' (by decide)).trans (V4_of_ne m c w3' (by decide) (by decide) (by decide) (by decide)),
    (h.1 c b3' (by decide)).trans (V4_of_ne m c b3' (by decide) (by decide) (by decide) (by decide))⟩

/-- The kernel as printed: its text is the idealized one's, read at float words. -/
theorem frame_p : Cert.quiescent_Kernel := fun m ρ hpre =>
  (θ_run (Cert.KernelIdeal.defs (F := Bits)) _ _).mono (fun r h => ⟨args_unchanged m r h, h.2⟩)
    (run_main (F := Bits) m ρ fun d => lt_of_pre _ _ _ _ _ _ _ _ (hpre d))

/-- The idealized kernel. -/
theorem frame_pi : Cert.quiescent_KernelIdeal := fun m ρ hpre =>
  (θ_run (Cert.KernelIdeal.defs (F := Ideal)) _ _).mono (fun r h => ⟨args_unchanged m r h, h.2⟩)
    (run_main (F := Ideal) m ρ fun d => lt_of_pre _ _ _ _ _ _ _ _ (hpre d))

/-- The idealized reference: it declares no semaphore. -/
theorem frame_ri : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The idealized reference at states in range, a case of `frame_ri`. -/
theorem frame_ri_in_range : Cert.quiescent_ReferenceIdeal_pre_x_in_range := fun m ρ _ => frame_ri m ρ trivial

/-- The kernel's result is the reference's, over the extended reals, at every state in range. -/
theorem algebraic : Cert.algebraic_KernelIdeal_ReferenceIdeal := by
  intro m ρ m' ρ' hpre hagree
  have hlt : PreOK m := fun d => lt_of_pre _ _ _ _ _ _ _ _ (hpre d)
  refine ⟨fun c => V4 m c r', (θ_run (Cert.KernelIdeal.defs (F := Ideal)) _ _).mono
      (fun r h c => ⟨h.1 c r' (by decide), args_unchanged m r h c⟩) (run_main (F := Ideal) m ρ hlt),
    (θ_run (Cert.ReferenceIdeal.defs (F := Ideal)) _ _).mono (fun r h c => ⟨(h c).1.trans ?_, (h c).2⟩) (Cert.ReferenceIdeal.Value.run (F := Ideal) m' ρ')⟩
  obtain ⟨h0, h1, h2, h3, h4, h5, h6, h7⟩ := hagree c
  rw [res_eq, h0, h1, h2, h3, h4, h5, h6, h7]
  exact (result_eq m hlt c).symm

/-- Everything claimed. -/
theorem claim : Cert.Claim :=
  ⟨Cert.Kernel.Gen.facts, Cert.KernelIdeal.Gen.facts, Cert.ReferenceIdeal.Gen.facts, Cert.Pre_x_in_range.Gen.facts,
    frame_p, frame_pi, frame_ri, frame_ri_in_range, trivial, algebraic⟩

end Cert.Proof

end
